-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x65536 : Shape := ⟨2, ![32, 65536]⟩
abbrev S1024x1024 : Shape := ⟨2, ![1024, 1024]⟩
abbrev S384x64 : Shape := ⟨2, ![384, 64]⟩
abbrev S64 : Shape := ⟨1, ![64]⟩
abbrev S_ : Shape := ⟨0, ![]⟩

class Facts : Prop where
  bcast_S_S32x65536 : S_.BroadcastsInDim S32x65536 (![] : Fin 0 → Fin S32x65536.rank)
  reducesTo_S32x65536_S_d0_1 : S32x65536.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S384x64 : S_.BroadcastsInDim S384x64 (![] : Fin 0 → Fin S384x64.rank)
  reducesTo_S384x64_S_d0_1 : S384x64.ReducesTo [0, 1] S_

variable [Facts]

def fn_part1 {F : FTy → Type} [FloatOps F] (main_v13 : IVec S_ 1) (main_v16 : IVec S384x64 1) : IVec S_ 1 :=
  let main_c_5 : IVec S_ 1 := constantI S_ 1 1#1
  let main_v17 : IVec S_ 1 := (fun x v => Host.reduce IntOp.andi x v reducesTo_S384x64_S_d0_1 h_S_) main_v16 main_c_5
  let main_v18 : IVec S_ 1 := andi main_v13 main_v17
  main_v18

def fn {F : FTy → Type} [FloatOps F] (main_arg0 : FVec F S32x65536 .f32) (main_arg1 : FVec F S32x65536 .f32) (main_arg2 : FVec F S1024x1024 .f32) (main_arg3 : FVec F S384x64 .f32) (main_arg4 : FVec F S64 .f32) : IVec S_ 1 :=
  let main_v0 : FVec F S32x65536 .f32 := Host.absf main_arg0
  let main_cst : FVec F S_ .f32 := constant S_ .f32 0x7F800000#32
  let main_v1 : FVec F S32x65536 .f32 := broadcastInDim S32x65536 ![] bcast_S_S32x65536 main_cst
  let main_v2 : IVec S32x65536 1 := cmpf .olt main_v0 main_v1
  let main_c : IVec S_ 1 := constantI S_ 1 1#1
  let main_v3 : IVec S_ 1 := (fun x v => Host.reduce IntOp.andi x v reducesTo_S32x65536_S_d0_1 h_S_) main_v2 main_c
  let main_v4 : FVec F S32x65536 .f32 := Host.absf main_arg1
  let main_cst_0 : FVec F S_ .f32 := constant S_ .f32 0x7F800000#32
  let main_v5 : FVec F S32x65536 .f32 := broadcastInDim S32x65536 ![] bcast_S_S32x65536 main_cst_0
  let main_v6 : IVec S32x65536 1 := cmpf .olt main_v4 main_v5
  let main_c_1 : IVec S_ 1 := constantI S_ 1 1#1
  let main_v7 : IVec S_ 1 := (fun x v => Host.reduce IntOp.andi x v reducesTo_S32x65536_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S384x64 .f32 := Host.absf main_arg3
  let main_cst_4 : FVec F S_ .f32 := constant S_ .f32 0x7F800000#32
  let main_v15 : FVec F S384x64 .f32 := broadcastInDim S384x64 ![] bcast_S_S384x64 main_cst_4
  let main_v16 : IVec S384x64 1 := cmpf .olt main_v14 main_v15
  fn_part1 (F := F) main_v13 main_v16
-- ==== Kernel.lean ====
abbrev S32x65536 : Shape := ⟨2, ![32, 65536]⟩
abbrev S1024x1024 : Shape := ⟨2, ![1024, 1024]⟩
abbrev S384x64 : Shape := ⟨2, ![384, 64]⟩
abbrev S64 : Shape := ⟨1, ![64]⟩
abbrev S32x1024x64 : Shape := ⟨3, ![32, 1024, 64]⟩
abbrev S32x1024x128 : Shape := ⟨3, ![32, 1024, 128]⟩
abbrev S128x64 : Shape := ⟨2, ![128, 64]⟩
abbrev S128x192 : Shape := ⟨2, ![128, 192]⟩
abbrev S1x64 : Shape := ⟨2, ![1, 64]⟩
abbrev S8x1024x128 : Shape := ⟨3, ![8, 1024, 128]⟩
abbrev S8x1024x64 : Shape := ⟨3, ![8, 1024, 64]⟩
abbrev S1024x512 : Shape := ⟨2, ![1024, 512]⟩
abbrev S256x1024 : Shape := ⟨2, ![256, 1024]⟩
abbrev S1x1024x128 : Shape := ⟨3, ![1, 1024, 128]⟩
abbrev S1024x128 : Shape := ⟨2, ![1024, 128]⟩
abbrev S1024x192 : Shape := ⟨2, ![1024, 192]⟩
abbrev S1024x64 : Shape := ⟨2, ![1024, 64]⟩
abbrev S1x1024x64 : Shape := ⟨3, ![1, 1024, 64]⟩
abbrev S256x512 : Shape := ⟨2, ![256, 512]⟩
abbrev S1x256x64 : Shape := ⟨3, ![1, 256, 64]⟩
abbrev S256x64 : Shape := ⟨2, ![256, 64]⟩

abbrev nBuf : Space → Nat
  | .hbm => 17
  | .vmem => 11
  | .smem => 0
  | _ => 0

abbrev bufTy : (tb : Table) → Fin (tcTables nBuf tb) → BufTy
  | .hbm, ⟨0, _⟩ => ⟨S32x65536, .f32⟩
  | .hbm, ⟨1, _⟩ => ⟨S32x65536, .f32⟩
  | .hbm, ⟨2, _⟩ => ⟨S1024x1024, .f32⟩
  | .hbm, ⟨3, _⟩ => ⟨S384x64, .f32⟩
  | .hbm, ⟨4, _⟩ => ⟨S64, .f32⟩
  | .hbm, ⟨5, _⟩ => ⟨S32x1024x64, .f32⟩
  | .hbm, ⟨6, _⟩ => ⟨S32x1024x64, .f32⟩
  | .hbm, ⟨7, _⟩ => ⟨S32x1024x128, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S128x64, .f32⟩
  | .hbm, ⟨12, _⟩ => ⟨S128x192, .f32⟩
  | .hbm, ⟨13, _⟩ => ⟨S128x192, .bf16⟩
  | .hbm, ⟨14, _⟩ => ⟨S1x64, .f32⟩
  | .hbm, ⟨15, _⟩ => ⟨S32x1024x64, .f32⟩
  | .hbm, ⟨16, _⟩ => ⟨S32x65536, .f32⟩
  | .local _ .vmem, ⟨0, _⟩ => ⟨S8x1024x128, .f32⟩
  | .local _ .vmem, ⟨1, _⟩ => ⟨S8x1024x128, .f32⟩
  | .local _ .vmem, ⟨2, _⟩ => ⟨S1024x1024, .f32⟩
  | .local _ .vmem, ⟨3, _⟩ => ⟨S128x192, .bf16⟩
  | .local _ .vmem, ⟨4, _⟩ => ⟨S1x64, .f32⟩
  | .local _ .vmem, ⟨5, _⟩ => ⟨S8x1024x64, .f32⟩
  | .local _ .vmem, ⟨6, _⟩ => ⟨S8x1024x64, .f32⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | _, _ => ⟨S32x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32x65536 : Shape := ⟨2, ![32, 65536]⟩
abbrev S1024x1024 : Shape := ⟨2, ![1024, 1024]⟩
abbrev S384x64 : Shape := ⟨2, ![384, 64]⟩
abbrev S64 : Shape := ⟨1, ![64]⟩
abbrev S32x1024x64 : Shape := ⟨3, ![32, 1024, 64]⟩
abbrev S32x1024x128 : Shape := ⟨3, ![32, 1024, 128]⟩
abbrev S1024x128x32 : Shape := ⟨3, ![1024, 128, 32]⟩
abbrev S1024x4096 : Shape := ⟨2, ![1024, 4096]⟩
abbrev S_ : Shape := ⟨0, ![]⟩
abbrev S1x1024x4096 : Shape := ⟨3, ![1, 1024, 4096]⟩
abbrev S3x1024x4096 : Shape := ⟨3, ![3, 1024, 4096]⟩
abbrev S3x1024x128x32 : Shape := ⟨4, ![3, 1024, 128, 32]⟩
abbrev S32x1024x128x3 : Shape := ⟨4, ![32, 1024, 128, 3]⟩
abbrev S32768x384 : Shape := ⟨2, ![32768, 384]⟩
abbrev S32768x64 : Shape := ⟨2, ![32768, 64]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S32x65536, .f32⟩
  | .hbm, ⟨1, _⟩ => ⟨S32x65536, .f32⟩
  | .hbm, ⟨2, _⟩ => ⟨S1024x1024, .f32⟩
  | .hbm, ⟨3, _⟩ => ⟨S384x64, .f32⟩
  | .hbm, ⟨4, _⟩ => ⟨S64, .f32⟩
  | .hbm, ⟨5, _⟩ => ⟨S32x1024x64, .f32⟩
  | .hbm, ⟨6, _⟩ => ⟨S32x1024x64, .f32⟩
  | .hbm, ⟨7, _⟩ => ⟨S32x1024x128, .f32⟩
  | .hbm, ⟨8, _⟩ => ⟨S1024x128x32, .f32⟩
  | .hbm, ⟨9, _⟩ => ⟨S1024x4096, .f32⟩
  | .hbm, ⟨10, _⟩ => ⟨S1024x4096, .f32⟩
  | .hbm, ⟨11, _⟩ => ⟨S1024x4096, .f32⟩
  | .hbm, ⟨12, _⟩ => ⟨S_, .f32⟩
  | .hbm, ⟨13, _⟩ => ⟨S1024x4096, .f32⟩
  | .hbm, ⟨14, _⟩ => ⟨S1024x4096, .f32⟩
  | .hbm, ⟨15, _⟩ => ⟨S1024x4096, .f32⟩
  | .hbm, ⟨16, _⟩ => ⟨S1x1024x4096, .f32⟩
  | .hbm, ⟨17, _⟩ => ⟨S1x1024x4096, .f32⟩
  | .hbm, ⟨18, _⟩ => ⟨S1x1024x4096, .f32⟩
  | .hbm, ⟨19, _⟩ => ⟨S3x1024x4096, .f32⟩
  | .hbm, ⟨20, _⟩ => ⟨S3x1024x128x32, .f32⟩
  | .hbm, ⟨21, _⟩ => ⟨S32x1024x128x3, .f32⟩
  | .hbm, ⟨22, _⟩ => ⟨S32768x384, .f32⟩
  | .hbm, ⟨23, _⟩ => ⟨S32768x64, .f32⟩
  | .hbm, ⟨24, _⟩ => ⟨S1x64, .f32⟩
  | .hbm, ⟨25, _⟩ => ⟨S32768x64, .f32⟩
  | .hbm, ⟨26, _⟩ => ⟨S32768x64, .f32⟩
  | .hbm, ⟨27, _⟩ => ⟨S32x65536, .f32⟩
  | _, _ => ⟨S32x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Proof.BlockLists.lean ====
/- What the kernel's body leaves in its scratch buffers at one grid point, as arrays over the point's input blocks. -/
module

public import proofs.«01_k».proof.Proof.Gen.KernelIdeal.Frame
public import Idealize.ShloMosaic.Lib.Pipeline.ReadBack
public import Idealize.ShloMosaic.Lib.Pipeline.ValueKit
public import Idealize.ShloMosaic.Lib.Tactic.RunNames

@[expose] public section

set_option maxRecDepth 16384

noncomputable section

open Idealize.ShloMosaic Idealize.ShloMosaic.TcCoe Idealize.SL.Sem

namespace Cert.KernelIdeal.Value

open Cert.KernelIdeal Cert.KernelIdeal.Gen

/-- The three projections of batch element `b` of the block, side by side: entry `(n, q)` of `x[b] · w`. -/
def proj (x0 : FVec Ideal S8x1024x128 .f32) (x2 : FVec Ideal S128x192 .bf16) (b : Fin 8) (n : Fin 1024) (q : Fin 192) : EReal :=
  ∑ k : Fin 128, (x0 (ix3 b n k) : EReal) * x2 (ix2 k q)

/-- The middle projection, laid out with the batch element in the upper part of the column. -/
def mid (x0 : FVec Ideal S8x1024x128 .f32) (x2 : FVec Ideal S128x192 .bf16) : FVec Ideal S1024x512 .bf16 := fun y =>
  proj x0 x2 ⟨(y 1).val / 64, by have := (y 1).isLt; change (y 1).val < 512 at this; omega⟩ (y 0) ⟨64 + (y 1).val % 64, by omega⟩

/-- The kernel's constant two. -/
abbrev two : EReal := Ideal.ofBits .f32 0x40000000#32

/-- Twice the last projection, in the same layout. -/
def last (x0 : FVec Ideal S8x1024x128 .f32) (x2 : FVec Ideal S128x192 .bf16) : FVec Ideal S1024x512 .bf16 := fun y =>
  two * proj x0 x2 ⟨(y 1).val / 64, by have := (y 1).isLt; change (y 1).val < 512 at this; omega⟩ (y 0) ⟨128 + (y 1).val % 64, by omega⟩

/-- The middle projection plus one diffusion step of the last. -/
def once (x0 : FVec Ideal S8x1024x128 .f32) (x1 : FVec Ideal S1024x1024 .f32) (x2 : FVec Ideal S128x192 .bf16) : FVec Ideal S1024x512 .bf16 := fun y =>
  mid x0 x2 y + ∑ k : Fin 1024, (x1 (ix2 (y 0) k) : EReal) * last x0 x2 (ix2 k (y 1))

/-- Stores that are blocks of `G` and together cover the buffer: a load of any rectangle afterwards reads `G` there. -/
theorem readCov_of_pieces {sig : RefSig} {κ : Kind} {sp : Space} {s : Shape} {e : EltTy} {Val : EltTy → Type} [∀ e, Nonempty (Val e)]
    (v : View sig κ sp s e) (L : List (View.Piece Val s e)) (G : s.Idx → Val e) (h : ∀ y, View.canon L y = G y) (r : Rect s) :
    v.readCov L r.toLoadRect = View.ld G r := by
  rw [View.readCov_eq_canon']
  funext j
  exact h _

variable (c : Dev nD) (a1 : Memref sig .tc .vmem S8x1024x128 .f32) (h1 : a1.IsWhole) (a2 : Memref sig .tc .vmem S1024x1024 .f32) (h2 : a2.IsWhole)
  (a3 : Memref sig .tc .vmem S128x192 .bf16) (h3 : a3.IsWhole) (a4 : Memref sig .tc .vmem S1x64 .f32) (h4 : a4.IsWhole)
  (a5 : Memref sig .tc .vmem S8x1024x64 .f32) (a6 : Memref sig .tc .vmem S1024x1024 .bf16) (a7 a8 a9 : Memref sig .tc .vmem S1024x512 .bf16)
  (x0 : FVec Ideal S8x1024x128 .f32) (x1 : FVec Ideal S1024x1024 .f32) (x2 : FVec Ideal S128x192 .bf16) (x3 : FVec Ideal S1x64 .f32)

/-- The adjacency scratch holds the adjacency block. -/
theorem adj_list (y : S1024x1024.Idx) : View.canon (kernelRun0_A.sl.HS0_4 (F := Ideal) c a2 h2 x1) y = x1 y := by
  refine View.canon_apply_of_pieces (Val := Elt Ideal) (S := S1024x1024) (e := .bf16) x1 _ (View.PiecesOf.mem ?_) y (View.cover_of_tiledBy _ ![256, 1024] (by sl_kernel_rfl) y)
  unfold kernelRun0_A.sl.HS0_4
  refine ⟨?_, ?_, ?_, ?_, trivial⟩ <;> intro x <;> simp only [View.readAt_eq_ld, Memref.IsWhole.read_unread]
  all_goals (pointwise [k0_pay1, k0_pay2, k0_pay3, k0_pay4]; blk_ext)

/-- The middle scratch holds the middle projection. -/
theorem mid_list (y : S1024x512.Idx) : View.canon (kernelRun0_A.sl.HS1_8 (F := Ideal) c a1 h1 a3 h3 x0 x2) y = mid x0 x2 y := by
  refine View.canon_apply_of_pieces (Val := Elt Ideal) (S := S1024x512) (e := .bf16) (mid x0 x2) _ (View.PiecesOf.mem ?_) y (View.cover_of_tiledBy _ ![1024, 64] (by sl_kernel_rfl) y)
  unfold kernelRun0_A.sl.HS1_8
  sl_unfold_run_values
  refine ⟨?_, ?_, ?_, ?_, ?_, ?_, ?_, ?_, trivial⟩ <;> intro x <;> simp only [View.readAt_eq_ld, Memref.IsWhole.read_unread]
  all_goals
    pointwise [k0_pay43, k0_pay41, k0_pay37, k0_pay35, k0_pay33, k0_pay31, k0_pay30, k0_pay28, k0_pay26, k0_pay24, k0_pay23, k0_pay21, k0_pay19,
      k0_pay17, k0_pay14, k0_pay12, k0_pay10, k0_pay7, k0_pay5, mid, proj]
    blk_point []

/-- The last scratch holds twice the last projection. -/
theorem last_list (y : S1024x512.Idx) : View.canon (kernelRun0_A.sl.HS2_8 (F := Ideal) c a1 h1 a3 h3 x0 x2) y = last x0 x2 y := by
  refine View.canon_apply_of_pieces (Val := Elt Ideal) (S := S1024x512) (e := .bf16) (last x0 x2) _ (View.PiecesOf.mem ?_) y (View.cover_of_tiledBy _ ![1024, 64] (by sl_kernel_rfl) y)
  unfold kernelRun0_A.sl.HS2_8
  sl_unfold_run_values
  refine ⟨?_, ?_, ?_, ?_, ?_, ?_, ?_, ?_, trivial⟩ <;> intro x <;> simp only [View.readAt_eq_ld, Memref.IsWhole.read_unread]
  all_goals
    pointwise [k0_pay44, k0_pay41, k0_pay40, k0_pay39, k0_pay38, k0_pay35, k0_pay34, k0_pay31, k0_pay30, k0_pay29, k0_pay26, k0_pay25, k0_pay21, k0_pay20,
      k0_pay17, k0_pay16, k0_pay15, k0_pay12, k0_pay11, k0_pay7, k0_pay5, last, proj]
    blk_point []

/-- The rows of the adjacency scratch, as the body loads them. -/
theorem adj_rows (r : Rect S1024x1024) : a6.view.readCov (kernelRun0_A.sl.HS0_4 (F := Ideal) c a2 h2 x1) r.toLoadRect = View.ld (Val := Elt Ideal) (e' := .bf16) x1 r :=
  readCov_of_pieces _ _ _ (adj_list c a2 h2 x1) r

/-- The middle scratch, as the body loads it. -/
theorem mid_rows (r : Rect S1024x512) : a7.view.readCov (kernelRun0_A.sl.HS1_8 (F := Ideal) c a1 h1 a3 h3 x0 x2) r.toLoadRect = View.ld (Val := Elt Ideal) (e' := .bf16) (mid x0 x2) r :=
  readCov_of_pieces _ _ _ (mid_list c a1 h1 a3 h3 x0 x2) r

/-- The last scratch, as the body loads it. -/
theorem last_rows (r : Rect S1024x512) : a8.view.readCov (kernelRun0_A.sl.HS2_8 (F := Ideal) c a1 h1 a3 h3 x0 x2) r.toLoadRect = View.ld (Val := Elt Ideal) (e' := .bf16) (last x0 x2) r :=
  readCov_of_pieces _ _ _ (last_list c a1 h1 a3 h3 x0 x2) r

/-- The fourth scratch holds the middle projection plus one diffusion step of the last. -/
theorem once_list (y : S1024x512.Idx) : View.canon (kernelRun0_A.sl.HS3_4 (F := Ideal) c a1 h1 a2 h2 a3 h3 a6 a7 a8 x0 x1 x2) y = once x0 x1 x2 y := by
  refine View.canon_apply_of_pieces (Val := Elt Ideal) (S := S1024x512) (e := .bf16) (once x0 x1 x2) _ (View.PiecesOf.mem ?_) y (View.cover_of_tiledBy _ ![256, 512] (by sl_kernel_rfl) y)
  unfold kernelRun0_A.sl.HS3_4
  sl_unfold_run_values
  simp only [adj_rows, mid_rows, last_rows]
  refine ⟨?_, ?_, ?_, ?_, trivial⟩ <;> intro x
  all_goals
    pointwise [k0_pay49, k0_pay48, k0_pay47, k0_pay46, k0_pay45, once]
    blk_point []

/-- The fourth scratch, as the body loads it. -/
theorem once_rows (r : Rect S1024x512) : a9.view.readCov (kernelRun0_A.sl.HS3_4 (F := Ideal) c a1 h1 a2 h2 a3 h3 a6 a7 a8 x0 x1 x2) r.toLoadRect
    = View.ld (Val := Elt Ideal) (e' := .bf16) (once x0 x1 x2) r :=
  readCov_of_pieces _ _ _ (once_list c a1 h1 a2 h2 a3 h3 a6 a7 a8 x0 x1 x2) r

end Cert.KernelIdeal.Value

end

end
-- ==== Proof.BlockOut.lean ====
/- What the kernel's body leaves in its output block at one grid point: thirty-two accumulating stores over eight first ones. -/
module

public import proofs.«01_k».proof.Proof.BlockLists

@[expose] public section

set_option maxRecDepth 16384

noncomputable section

open Idealize.ShloMosaic Idealize.ShloMosaic.TcCoe Idealize.SL.Sem

namespace Cert.KernelIdeal.Value

open Cert.KernelIdeal Cert.KernelIdeal.Gen

/-- The first projection plus the bias: what the first eight stores leave. -/
def first (x0 : FVec Ideal S8x1024x128 .f32) (x2 : FVec Ideal S128x192 .bf16) (x3 : FVec Ideal S1x64 .f32) : FVec Ideal S8x1024x64 .f32 := fun y =>
  proj x0 x2 (y 0) (y 1) ⟨(y 2).val, by have := (y 2).isLt; change (y 2).val < 64 at this; omega⟩ + x3 (ix2 0 (y 2))

/-- The whole block: the first projection, the bias, and one diffusion step of the fourth scratch. -/
def whole (x0 : FVec Ideal S8x1024x128 .f32) (x1 : FVec Ideal S1024x1024 .f32) (x2 : FVec Ideal S128x192 .bf16) (x3 : FVec Ideal S1x64 .f32) :
    FVec Ideal S8x1024x64 .f32 := fun y =>
  first x0 x2 x3 y + ∑ k : Fin 1024, (x1 (ix2 (y 1) k) : EReal) *
    once x0 x1 x2 (ix2 k ⟨64 * (y 0).val + (y 2).val, by
      have h0 := (y 0).isLt; have h2 := (y 2).isLt; change (y 0).val < 8 at h0; change (y 2).val < 64 at h2; omega⟩)

/-- The block after `k` accumulating stores: they go row tile by row tile, and within a tile batch element by batch element. -/
def stage (x0 : FVec Ideal S8x1024x128 .f32) (x1 : FVec Ideal S1024x1024 .f32) (x2 : FVec Ideal S128x192 .bf16) (x3 : FVec Ideal S1x64 .f32) (k : ℕ) :
    FVec Ideal S8x1024x64 .f32 := fun y =>
  if 8 * ((y 1).val / 256) + (y 0).val < k then whole x0 x1 x2 x3 y else first x0 x2 x3 y

/-- A store of a block of `G` over earlier ones: `G` on its rectangle, the earlier ones off it. -/
theorem canon_peel {s : Shape} {e : EltTy} {Val : EltTy → Type} [∀ e, Nonempty (Val e)] (r : Rect s) (w : r.shape.Idx → Val e)
    (L : List (View.Piece Val s e)) (G : s.Idx → Val e) (hw : ∀ x, w x = G (r.emb x)) (y : s.Idx) :
    (y ∈ r.set ∧ View.canon (⟨r, w⟩ :: L) y = G y) ∨ (y ∉ r.set ∧ View.canon (⟨r, w⟩ :: L) y = View.canon L y) := by
  by_cases hm : y ∈ r.set
  · obtain ⟨x, rfl⟩ := r.exists_idx_of_mem hm
    exact .inl ⟨hm, (View.canon_cons_emb r w L x).trans (hw x)⟩
  · exact .inr ⟨hm, View.canon_cons_of_not_mem ⟨r, w⟩ L hm⟩

section Steps

variable (x0 : FVec Ideal S8x1024x128 .f32) (x1 : FVec Ideal S1024x1024 .f32) (x2 : FVec Ideal S128x192 .bf16) (x3 : FVec Ideal S1x64 .f32)

/-- One more accumulating store, of tile `O / 256` and batch element `C`, takes stage `k` to stage `k + 1`. -/
theorem stage_step (L : List (View.Piece (Elt Ideal) S8x1024x64 .f32)) (k : ℕ) (hL : ∀ y, View.canon L y = stage x0 x1 x2 x3 k y)
    (C O : ℕ) (inb) (w) (hO : O % 256 = 0) (hC : C < 8) (hk : k = 8 * (O / 256) + C)
    (hw : ∀ x, w x = whole x0 x1 x2 x3 ((Rect.unit (s := S8x1024x64) ![C, O, 0] S1x256x64.size inb).emb x)) (y : S8x1024x64.Idx) :
    View.canon ((⟨Rect.unit ![C, O, 0] S1x256x64.size inb, w⟩ : View.Piece (Elt Ideal) S8x1024x64 .f32) :: L) y = stage x0 x1 x2 x3 (k + 1) y := by
  rcases canon_peel (Rect.unit (s := S8x1024x64) ![C, O, 0] S1x256x64.size inb) w L (whole x0 x1 x2 x3) hw y with ⟨hm, he⟩ | ⟨hm, he⟩
  · have hb := Rect.mem_set_unit.mp hm
    have b0 := hb 0
    have b1 := hb 1
    change C ≤ (y 0).val ∧ (y 0).val < C + 1 at b0
    change O ≤ (y 1).val ∧ (y 1).val < O + 256 at b1
    have hlt : 8 * ((y 1).val / 256) + (y 0).val < k + 1 := by omega
    exact he.trans (if_pos hlt).symm
  · rw [he, hL]
    unfold stage
    have hne : ¬ (8 * ((y 1).val / 256) + (y 0).val = k) := fun he => hm <| by
      have h0 : (y 0).val < 8 := (y 0).isLt
      have h1 : (y 1).val < 1024 := (y 1).isLt
      have h2 : (y 2).val < 64 := (y 2).isLt
      refine Rect.mem_set_unit.mpr fun a => ?_
      match a with
      | ⟨0, _⟩ => change C ≤ (y 0).val ∧ (y 0).val < C + 1; omega
      | ⟨1, _⟩ => change O ≤ (y 1).val ∧ (y 1).val < O + 256; omega
      | ⟨2, _⟩ => change 0 ≤ (y 2).val ∧ (y 2).val < 0 + 64; omega
    by_cases h : 8 * ((y 1).val / 256) + (y 0).val < k
    · rw [if_pos h, if_pos (by omega)]
    · rw [if_neg h, if_neg (by omega)]

/-- At stage `k` the rectangle about to be accumulated into still holds the first store. -/
theorem stage_old {sig : RefSig} {κ : Kind} {sp : Space} (v : View sig κ sp S8x1024x64 .f32) (L : List (View.Piece (Elt Ideal) S8x1024x64 .f32)) (k : ℕ)
    (hL : ∀ y, View.canon L y = stage x0 x1 x2 x3 k y) (C O : ℕ) (inb) (hO : O % 256 = 0) (hk : k = 8 * (O / 256) + C) :
    v.readCov L (Rect.unit (s := S8x1024x64) ![C, O, 0] S1x256x64.size inb).toLoadRect
      = View.ld (Val := Elt Ideal) (e' := .f32) (first x0 x2 x3) (Rect.unit (s := S8x1024x64) ![C, O, 0] S1x256x64.size inb) := by
  rw [View.readCov_eq_canon']
  funext j
  rw [hL]
  refine if_neg ?_
  have e0 := Rect.idx_unit_val (s := S8x1024x64) ![C, O, 0] S1x256x64.size inb j (0 : Fin 3)
  have e1 := Rect.idx_unit_val (s := S8x1024x64) ![C, O, 0] S1x256x64.size inb j (1 : Fin 3)
  change _ = C + _ at e0
  change _ = O + _ at e1
  change ¬ 8 * (((Rect.unit (s := S8x1024x64) ![C, O, 0] S1x256x64.size inb).idx j (1 : Fin 3)).val / 256) + ((Rect.unit (s := S8x1024x64) ![C, O, 0] S1x256x64.size inb).idx j (0 : Fin 3)).val < k
  rw [e0, e1]
  omega

end Steps

section Lists

variable (c : Dev nD) (a1 : Memref sig .tc .vmem S8x1024x128 .f32) (h1 : a1.IsWhole) (a2 : Memref sig .tc .vmem S1024x1024 .f32) (h2 : a2.IsWhole)
  (a3 : Memref sig .tc .vmem S128x192 .bf16) (h3 : a3.IsWhole) (a4 : Memref sig .tc .vmem S1x64 .f32) (h4 : a4.IsWhole)
  (a5 : Memref sig .tc .vmem S8x1024x64 .f32) (a6 : Memref sig .tc .vmem S1024x1024 .bf16) (a7 a8 a9 : Memref sig .tc .vmem S1024x512 .bf16)
  (x0 : FVec Ideal S8x1024x128 .f32) (x1 : FVec Ideal S1024x1024 .f32) (x2 : FVec Ideal S128x192 .bf16) (x3 : FVec Ideal S1x64 .f32)

/-- The first eight stores leave the first projection plus the bias. -/
theorem list_8 (y : S8x1024x64.Idx) : View.canon (kernelRun0_A.sl.H4_8 (F := Ideal) c a1 h1 a3 h3 a4 h4 x0 x2 x3) y = stage x0 x1 x2 x3 0 y := by
  refine View.canon_apply_of_pieces (Val := Elt Ideal) (S := S8x1024x64) (e := .f32) (stage x0 x1 x2 x3 0) _ (View.PiecesOf.mem ?_) y
    (View.cover_of_tiledBy _ ![1, 1024, 64] (by sl_kernel_rfl) y)
  have hs : stage x0 x1 x2 x3 0 = first x0 x2 x3 := funext fun _ => if_neg (Nat.not_lt_zero _)
  rw [hs]
  unfold kernelRun0_A.sl.H4_8
  sl_unfold_run_values
  refine ⟨?_, ?_, ?_, ?_, ?_, ?_, ?_, ?_, trivial⟩ <;> intro x <;> simp only [View.readAt_eq_ld, Memref.IsWhole.read_unread]
  all_goals
    pointwise [k0_pay42, k0_pay41, k0_pay36, k0_pay35, k0_pay32, k0_pay31, k0_pay30, k0_pay27, k0_pay26, k0_pay22, k0_pay21, k0_pay18, k0_pay17,
      k0_pay13, k0_pay12, k0_pay9, k0_pay8, k0_pay7, k0_pay6, k0_pay5, first, proj]
    blk_point []

/-- After 1 accumulating store. -/
theorem list_9 (y : S8x1024x64.Idx) : View.canon (kernelRun0_A.sl.H4_9 (F := Ideal) c a1 h1 a2 h2 a3 h3 a4 h4 a5 a6 a7 a8 a9 x0 x1 x2 x3) y = stage x0 x1 x2 x3 1 y := by
  unfold kernelRun0_A.sl.H4_9
  refine stage_step x0 x1 x2 x3 _ 0 (list_8 c a1 h1 a3 h3 a4 h4 x0 x1 x2 x3) 0 0 _ _ (by decide) (by decide) (by decide) (fun x => ?_) y
  sl_unfold_run_values
  simp only [adj_rows, once_rows]
  rw [stage_old x0 x1 x2 x3 _ _ 0 (list_8 c a1 h1 a3 h3 a4 h4 x0 x1 x2 x3) 0 0 _ (by decide) (by decide)]
  pointwise [k0_pay79, k0_pay68, k0_pay59, k0_pay51, k0_pay50, whole]
  blk_point []
  all_goals exact Fin.ext (by simp)

/-- After 2 accumulating stores. -/
theorem list_10 (y : S8x1024x64.Idx) : View.canon (kernelRun0_A.sl.H4_10 (F := Ideal) c a1 h1 a2 h2 a3 h3 a4 h4 a5 a6 a7 a8 a9 x0 x1 x2 x3) y = stage x0 x1 x2 x3 2 y := by
  unfold kernelRun0_A.sl.H4_10
  refine stage_step x0 x1 x2 x3 _ 1 (list_9 c a1 h1 a2 h2 a3 h3 a4 h4 a5 a6 a7 a8 a9 x0 x1 x2 x3) 1 0 _ _ (by decide) (by decide) (by decide) (fun x => ?_) y
  sl_unfold_run_values
  simp only [adj_rows, once_rows]
  rw [stage_old x0 x1 x2 x3 _ _ 1 (list_9 c a1 h1 a2 h2 a3 h3 a4 h4 a5 a6 a7 a8 a9 x0 x1 x2 x3) 1 0 _ (by decide) (by decide)]
  pointwise [k0_pay79, k0_pay68, k0_pay59, k0_pay52, k0_pay50, whole]
  blk_point []

/-- After 3 accumulating stores. -/
theorem list_11 (y : S8x1024x64.Idx) : View.canon (kernelRun0_A.sl.H4_11 (F := Ideal) c a1 h1 a2 h2 a3 h3 a4 h4 a5 a6 a7 a8 a9 x0 x1 x2 x3) y = stage x0 x1 x2 x3 3 y := by
  unfold kernelRun0_A.sl.H4_11
  refine stage_step x0 x1 x2 x3 _ 2 (list_10 c a1 h1 a2 h2 a3 h3 a4 h4 a5 a6 a7 a8 a9 x0 x1 x2 x3) 2 0 _ _ (by decide) (by decide) (by decide) (fun x => ?_) y
  sl_unfold_run_values
  simp only [adj_rows, once_rows]
  rw [stage_old x0 x1 x2 x3 _ _ 2 (list_10 c a1 h1 a2 h2 a3 h3 a4 h4 a5 a6 a7 a8 a9 x0 x1 x2 x3) 2 0 _ (by decide) (by decide)]
  pointwise [k0_pay79, k0_pay68, k0_pay59, k0_pay53, k0_pay50, whole]
  blk_point []

/-- After 4 accumulating stores. -/
theorem list_12 (y : S8x1024x64.Idx) : View.canon (kernelRun0_A.sl.H4_12 (F := Ideal) c a1 h1 a2 h2 a3 h3 a4 h4 a5 a6 a7 a8 a9 x0 x1 x2 x3) y = stage x0 x1 x2 x3 4 y := by
  unfold kernelRun0_A.sl.H4_12
  refine stage_step x0 x1 x2 x3 _ 3 (list_11 c a1 h1 a2 h2 a3 h3 a4 h4 a5 a6 a7 a8 a9 x0 x1 x2 x3) 3 0 _ _ (by decide) (by decide) (by decide) (fun x => ?_) y
  sl_unfold_run_values
  simp only [adj_rows, once_rows]
  rw [stage_old x0 x1 x2 x3 _ _ 3 (list_11 c a1 h1 a2 h2 a3 h3 a4 h4 a5 a6 a7 a8 a9 x0 x1 x2 x3) 3 0 _ (by decide) (by decide)]
  pointwise [k0_pay79, k0_pay68, k0_pay59, k0_pay54, k0_pay50, whole]
  blk_point []

/-- After 5 accumulating stores. -/
theorem list_13 (y : S8x1024x64.Idx) : View.canon (kernelRun0_A.sl.H4_13 (F := Ideal) c a1 h1 a2 h2 a3 h3 a4 h4 a5 a6 a7 a8 a9 x0 x1 x2 x3) y = stage x0 x1 x2 x3 5 y := by
  unfold kernelRun0_A.sl.H4_13
  refine stage_step x0 x1 x2 x3 _ 4 (list_12 c a1 h1 a2 h2 a3 h3 a4 h4 a5 a6 a7 a8 a9 x0 x1 x2 x3) 4 0 _ _ (by decide) (by decide) (by decide) (fun x => ?_) y
  sl_unfold_run_values
  simp only [adj_rows, once_rows]
  rw [stage_old x0 x1 x2 x3 _ _ 4 (list_12 c a1 h1 a2 h2 a3 h3 a4 h4 a5 a6 a7 a8 a9 x0 x1 x2 x3) 4 0 _ (by decide) (by decide)]
  pointwise [k0_pay79, k0_pay68, k0_pay59, k0_pay55, k0_pay50, whole]
  blk_point []

/-- After 6 accumulating stores. -/
theorem list_14 (y : S8x1024x64.Idx) : View.canon (kernelRun0_A.sl.H4_14 (F := Ideal) c a1 h1 a2 h2 a3 h3 a4 h4 a5 a6 a7 a8 a9 x0 x1 x2 x3) y = stage x0 x1 x2 x3 6 y := by
  unfold kernelRun0_A.sl.H4_14
  refine stage_step x0 x1 x2 x3 _ 5 (list_13 c a1 h1 a2 h2 a3 h3 a4 h4 a5 a6 a7 a8 a9 x0 x1 x2 x3) 5 0 _ _ (by decide) (by decide) (by decide) (fun x => ?_) y
  sl_unfold_run_values
  simp only [adj_rows, once_rows]
  rw [stage_old x0 x1 x2 x3 _ _ 5 (list_13 c a1 h1 a2 h2 a3 h3 a4 h4 a5 a6 a7 a8 a9 x0 x1 x2 x3) 5 0 _ (by decide) (by decide)]
  pointwise [k0_pay79, k0_pay68, k0_pay59, k0_pay56, k0_pay50, whole]
  blk_point []

/-- After 7 accumulating stores. -/
theorem list_15 (y : S8x1024x64.Idx) : View.canon (kernelRun0_A.sl.H4_15 (F := Ideal) c a1 h1 a2 h2 a3 h3 a4 h4 a5 a6 a7 a8 a9 x0 x1 x2 x3) y = stage x0 x1 x2 x3 7 y := by
  unfold kernelRun0_A.sl.H4_15
  refine stage_step x0 x1 x2 x3 _ 6 (list_14 c a1 h1 a2 h2 a3 h3 a4 h4 a5 a6 a7 a8 a9 x0 x1 x2 x3) 6 0 _ _ (by decide) (by decide) (by decide) (fun x => ?_) y
  sl_unfold_run_values
  simp only [adj_rows, once_rows]
  rw [stage_old x0 x1 x2 x3 _ _ 6 (list_14 c a1 h1 a2 h2 a3 h3 a4 h4 a5 a6 a7 a8 a9 x0 x1 x2 x3) 6 0 _ (by decide) (by decide)]
  pointwise [k0_pay79, k0_pay68, k0_pay59, k0_pay57, k0_pay50, whole]
  blk_point []

/-- After 8 accumulating stores. -/
theorem list_16 (y : S8x1024x64.Idx) : View.canon (kernelRun0_A.sl.H4_16 (F := Ideal) c a1 h1 a2 h2 a3 h3 a4 h4 a5 a6 a7 a8 a9 x0 x1 x2 x3) y = stage x0 x1 x2 x3 8 y := by
  unfold kernelRun0_A.sl.H4_16
  refine stage_step x0 x1 x2 x3 _ 7 (list_15 c a1 h1 a2 h2 a3 h3 a4 h4 a5 a6 a7 a8 a9 x0 x1 x2 x3) 7 0 _ _ (by decide) (by decide) (by decide) (fun x => ?_) y
  sl_unfold_run_values
  simp only [adj_rows, once_rows]
  rw [stage_old x0 x1 x2 x3 _ _ 7 (list_15 c a1 h1 a2 h2 a3 h3 a4 h4 a5 a6 a7 a8 a9 x0 x1 x2 x3) 7 0 _ (by decide) (by decide)]
  pointwise [k0_pay79, k0_pay68, k0_pay59, k0_pay58, k0_pay50, whole]
  blk_point []

/-- After 9 accumulating stores. -/
theorem list_17 (y : S8x1024x64.Idx) : View.canon (kernelRun0_A.sl.H4_17 (F := Ideal) c a1 h1 a2 h2 a3 h3 a4 h4 a5 a6 a7 a8 a9 x0 x1 x2 x3) y = stage x0 x1 x2 x3 9 y := by
  unfold kernelRun0_A.sl.H4_17
  refine stage_step x0 x1 x2 x3 _ 8 (list_16 c a1 h1 a2 h2 a3 h3 a4 h4 a5 a6 a7 a8 a9 x0 x1 x2 x3) 0 256 _ _ (by decide) (by decide) (by decide) (fun x => ?_) y
  sl_unfold_run_values
  simp only [adj_rows, once_rows]
  rw [stage_old x0 x1 x2 x3 _ _ 8 (list_16 c a1 h1 a2 h2 a3 h3 a4 h4 a5 a6 a7 a8 a9 x0 x1 x2 x3) 0 256 _ (by decide) (by decide)]
  pointwise [k0_pay79, k0_pay68, k0_pay60, k0_pay59, k0_pay50, whole]
  blk_point []
  all_goals exact Fin.ext (by simp)

/-- After 10 accumulating stores. -/
theorem list_18 (y : S8x1024x64.Idx) : View.canon (kernelRun0_A.sl.H4_18 (F := Ideal) c a1 h1 a2 h2 a3 h3 a4 h4 a5 a6 a7 a8 a9 x0 x1 x2 x3) y = stage x0 x1 x2 x3 10 y := by
  unfold kernelRun0_A.sl.H4_18
  refine stage_step x0 x1 x2 x3 _ 9 (list_17 c a1 h1 a2 h2 a3 h3 a4 h4 a5 a6 a7 a8 a9 x0 x1 x2 x3) 1 256 _ _ (by decide) (by decide) (by decide) (fun x => ?_) y
  sl_unfold_run_values
  simp only [adj_rows, once_rows]
  rw [stage_old x0 x1 x2 x3 _ _ 9 (list_17 c a1 h1 a2 h2 a3 h3 a4 h4 a5 a6 a7 a8 a9 x0 x1 x2 x3) 1 256 _ (by decide) (by decide)]
  pointwise [k0_pay79, k0_pay68, k0_pay61, k0_pay59, k0_pay50, whole]
  blk_point []

/-- After 11 accumulating stores. -/
theorem list_19 (y : S8x1024x64.Idx) : View.canon (kernelRun0_A.sl.H4_19 (F := Ideal) c a1 h1 a2 h2 a3 h3 a4 h4 a5 a6 a7 a8 a9 x0 x1 x2 x3) y = stage x0 x1 x2 x3 11 y := by
  unfold kernelRun0_A.sl.H4_19
  refine stage_step x0 x1 x2 x3 _ 10 (list_18 c a1 h1 a2 h2 a3 h3 a4 h4 a5 a6 a7 a8 a9 x0 x1 x2 x3) 2 256 _ _ (by decide) (by decide) (by decide) (fun x => ?_) y
  sl_unfold_run_values
  simp only [adj_rows, once_rows]
  rw [stage_old x0 x1 x2 x3 _ _ 10 (list_18 c a1 h1 a2 h2 a3 h3 a4 h4 a5 a6 a7 a8 a9 x0 x1 x2 x3) 2 256 _ (by decide) (by decide)]
  pointwise [k0_pay79, k0_pay68, k0_pay62, k0_pay59, k0_pay50, whole]
  blk_point []

/-- After 12 accumulating stores. -/
theorem list_20 (y : S8x1024x64.Idx) : View.canon (kernelRun0_A.sl.H4_20 (F := Ideal) c a1 h1 a2 h2 a3 h3 a4 h4 a5 a6 a7 a8 a9 x0 x1 x2 x3) y = stage x0 x1 x2 x3 12 y := by
  unfold kernelRun0_A.sl.H4_20
  refine stage_step x0 x1 x2 x3 _ 11 (list_19 c a1 h1 a2 h2 a3 h3 a4 h4 a5 a6 a7 a8 a9 x0 x1 x2 x3) 3 256 _ _ (by decide) (by decide) (by decide) (fun x => ?_) y
  sl_unfold_run_values
  simp only [adj_rows, once_rows]
  rw [stage_old x0 x1 x2 x3 _ _ 11 (list_19 c a1 h1 a2 h2 a3 h3 a4 h4 a5 a6 a7 a8 a9 x0 x1 x2 x3) 3 256 _ (by decide) (by decide)]
  pointwise [k0_pay79, k0_pay68, k0_pay63, k0_pay59, k0_pay50, whole]
  blk_point []

/-- After 13 accumulating stores. -/
theorem list_21 (y : S8x1024x64.Idx) : View.canon (kernelRun0_A.sl.H4_21 (F := Ideal) c a1 h1 a2 h2 a3 h3 a4 h4 a5 a6 a7 a8 a9 x0 x1 x2 x3) y = stage x0 x1 x2 x3 13 y := by
  unfold kernelRun0_A.sl.H4_21
  refine stage_step x0 x1 x2 x3 _ 12 (list_20 c a1 h1 a2 h2 a3 h3 a4 h4 a5 a6 a7 a8 a9 x0 x1 x2 x3) 4 256 _ _ (by decide) (by decide) (by decide) (fun x => ?_) y
  sl_unfold_run_values
  simp only [adj_rows, once_rows]
  rw [stage_old x0 x1 x2 x3 _ _ 12 (list_20 c a1 h1 a2 h2 a3 h3 a4 h4 a5 a6 a7 a8 a9 x0 x1 x2 x3) 4 256 _ (by decide) (by decide)]
  pointwise [k0_pay79, k0_pay68, k0_pay64, k0_pay59, k0_pay50, whole]
  blk_point []

/-- After 14 accumulating stores. -/
theorem list_22 (y : S8x1024x64.Idx) : View.canon (kernelRun0_A.sl.H4_22 (F := Ideal) c a1 h1 a2 h2 a3 h3 a4 h4 a5 a6 a7 a8 a9 x0 x1 x2 x3) y = stage x0 x1 x2 x3 14 y := by
  unfold kernelRun0_A.sl.H4_22
  refine stage_step x0 x1 x2 x3 _ 13 (list_21 c a1 h1 a2 h2 a3 h3 a4 h4 a5 a6 a7 a8 a9 x0 x1 x2 x3) 5 256 _ _ (by decide) (by decide) (by decide) (fun x => ?_) y
  sl_unfold_run_values
  simp only [adj_rows, once_rows]
  rw [stage_old x0 x1 x2 x3 _ _ 13 (list_21 c a1 h1 a2 h2 a3 h3 a4 h4 a5 a6 a7 a8 a9 x0 x1 x2 x3) 5 256 _ (by decide) (by decide)]
  pointwise [k0_pay79, k0_pay68, k0_pay65, k0_pay59, k0_pay50, whole]
  blk_point []

/-- After 15 accumulating stores. -/
theorem list_23 (y : S8x1024x64.Idx) : View.canon (kernelRun0_A.sl.H4_23 (F := Ideal) c a1 h1 a2 h2 a3 h3 a4 h4 a5 a6 a7 a8 a9 x0 x1 x2 x3) y = stage x0 x1 x2 x3 15 y := by
  unfold kernelRun0_A.sl.H4_23
  refine stage_step x0 x1 x2 x3 _ 14 (list_22 c a1 h1 a2 h2 a3 h3 a4 h4 a5 a6 a7 a8 a9 x0 x1 x2 x3) 6 256 _ _ (by decide) (by decide) (by decide) (fun x => ?_) y
  sl_unfold_run_values
  simp only [adj_rows, once_rows]
  rw [stage_old x0 x1 x2 x3 _ _ 14 (list_22 c a1 h1 a2 h2 a3 h3 a4 h4 a5 a6 a7 a8 a9 x0 x1 x2 x3) 6 256 _ (by decide) (by decide)]
  pointwise [k0_pay79, k0_pay68, k0_pay66, k0_pay59, k0_pay50, whole]
  blk_point []

/-- After 16 accumulating stores. -/
theorem list_24 (y : S8x1024x64.Idx) : View.canon (kernelRun0_A.sl.H4_24 (F := Ideal) c a1 h1 a2 h2 a3 h3 a4 h4 a5 a6 a7 a8 a9 x0 x1 x2 x3) y = stage x0 x1 x2 x3 16 y := by
  unfold kernelRun0_A.sl.H4_24
  refine stage_step x0 x1 x2 x3 _ 15 (list_23 c a1 h1 a2 h2 a3 h3 a4 h4 a5 a6 a7 a8 a9 x0 x1 x2 x3) 7 256 _ _ (by decide) (by decide) (by decide) (fun x => ?_) y
  sl_unfold_run_values
  simp only [adj_rows, once_rows]
  rw [stage_old x0 x1 x2 x3 _ _ 15 (list_23 c a1 h1 a2 h2 a3 h3 a4 h4 a5 a6 a7 a8 a9 x0 x1 x2 x3) 7 256 _ (by decide) (by decide)]
  pointwise [k0_pay79, k0_pay68, k0_pay67, k0_pay59, k0_pay50, whole]
  blk_point []

/-- After 17 accumulating stores. -/
theorem list_25 (y : S8x1024x64.Idx) : View.canon (kernelRun0_A.sl.H4_25 (F := Ideal) c a1 h1 a2 h2 a3 h3 a4 h4 a5 a6 a7 a8 a9 x0 x1 x2 x3) y = stage x0 x1 x2 x3 17 y := by
  unfold kernelRun0_A.sl.H4_25
  refine stage_step x0 x1 x2 x3 _ 16 (list_24 c a1 h1 a2 h2 a3 h3 a4 h4 a5 a6 a7 a8 a9 x0 x1 x2 x3) 0 512 _ _ (by decide) (by decide) (by decide) (fun x => ?_) y
  sl_unfold_run_values
  simp only [adj_rows, once_rows]
  rw [stage_old x0 x1 x2 x3 _ _ 16 (list_24 c a1 h1 a2 h2 a3 h3 a4 h4 a5 a6 a7 a8 a9 x0 x1 x2 x3) 0 512 _ (by decide) (by decide)]
  pointwise [k0_pay79, k0_pay69, k0_pay68, k0_pay59, k0_pay50, whole]
  blk_point []
  all_goals exact Fin.ext (by simp)

/-- After 18 accumulating stores. -/
theorem list_26 (y : S8x1024x64.Idx) : View.canon (kernelRun0_A.sl.H4_26 (F := Ideal) c a1 h1 a2 h2 a3 h3 a4 h4 a5 a6 a7 a8 a9 x0 x1 x2 x3) y = stage x0 x1 x2 x3 18 y := by
  unfold kernelRun0_A.sl.H4_26
  refine stage_step x0 x1 x2 x3 _ 17 (list_25 c a1 h1 a2 h2 a3 h3 a4 h4 a5 a6 a7 a8 a9 x0 x1 x2 x3) 1 512 _ _ (by decide) (by decide) (by decide) (fun x => ?_) y
  sl_unfold_run_values
  simp only [adj_rows, once_rows]
  rw [stage_old x0 x1 x2 x3 _ _ 17 (list_25 c a1 h1 a2 h2 a3 h3 a4 h4 a5 a6 a7 a8 a9 x0 x1 x2 x3) 1 512 _ (by decide) (by decide)]
  pointwise [k0_pay79, k0_pay70, k0_pay68, k0_pay59, k0_pay50, whole]
  blk_point []

/-- After 19 accumulating stores. -/
theorem list_27 (y : S8x1024x64.Idx) : View.canon (kernelRun0_A.sl.H4_27 (F := Ideal) c a1 h1 a2 h2 a3 h3 a4 h4 a5 a6 a7 a8 a9 x0 x1 x2 x3) y = stage x0 x1 x2 x3 19 y := by
  unfold kernelRun0_A.sl.H4_27
  refine stage_step x0 x1 x2 x3 _ 18 (list_26 c a1 h1 a2 h2 a3 h3 a4 h4 a5 a6 a7 a8 a9 x0 x1 x2 x3) 2 512 _ _ (by decide) (by decide) (by decide) (fun x => ?_) y
  sl_unfold_run_values
  simp only [adj_rows, once_rows]
  rw [stage_old x0 x1 x2 x3 _ _ 18 (list_26 c a1 h1 a2 h2 a3 h3 a4 h4 a5 a6 a7 a8 a9 x0 x1 x2 x3) 2 512 _ (by decide) (by decide)]
  pointwise [k0_pay79, k0_pay71, k0_pay68, k0_pay59, k0_pay50, whole]
  blk_point []

/-- After 20 accumulating stores. -/
theorem list_28 (y : S8x1024x64.Idx) : View.canon (kernelRun0_A.sl.H4_28 (F := Ideal) c a1 h1 a2 h2 a3 h3 a4 h4 a5 a6 a7 a8 a9 x0 x1 x2 x3) y = stage x0 x1 x2 x3 20 y := by
  unfold kernelRun0_A.sl.H4_28
  refine stage_step x0 x1 x2 x3 _ 19 (list_27 c a1 h1 a2 h2 a3 h3 a4 h4 a5 a6 a7 a8 a9 x0 x1 x2 x3) 3 512 _ _ (by decide) (by decide) (by decide) (fun x => ?_) y
  sl_unfold_run_values
  simp only [adj_rows, once_rows]
  rw [stage_old x0 x1 x2 x3 _ _ 19 (list_27 c a1 h1 a2 h2 a3 h3 a4 h4 a5 a6 a7 a8 a9 x0 x1 x2 x3) 3 512 _ (by decide) (by decide)]
  pointwise [k0_pay79, k0_pay72, k0_pay68, k0_pay59, k0_pay50, whole]
  blk_point []

/-- After 21 accumulating stores. -/
theorem list_29 (y : S8x1024x64.Idx) : View.canon (kernelRun0_A.sl.H4_29 (F := Ideal) c a1 h1 a2 h2 a3 h3 a4 h4 a5 a6 a7 a8 a9 x0 x1 x2 x3) y = stage x0 x1 x2 x3 21 y := by
  unfold kernelRun0_A.sl.H4_29
  refine stage_step x0 x1 x2 x3 _ 20 (list_28 c a1 h1 a2 h2 a3 h3 a4 h4 a5 a6 a7 a8 a9 x0 x1 x2 x3) 4 512 _ _ (by decide) (by decide) (by decide) (fun x => ?_) y
  sl_unfold_run_values
  simp only [adj_rows, once_rows]
  rw [stage_old x0 x1 x2 x3 _ _ 20 (list_28 c a1 h1 a2 h2 a3 h3 a4 h4 a5 a6 a7 a8 a9 x0 x1 x2 x3) 4 512 _ (by decide) (by decide)]
  pointwise [k0_pay79, k0_pay75, k0_pay74, k0_pay73, k0_pay68, k0_pay59, k0_pay50, whole]
  blk_point []

/-- After 22 accumulating stores. -/
theorem list_30 (y : S8x1024x64.Idx) : View.canon (kernelRun0_A.sl.H4_30 (F := Ideal) c a1 h1 a2 h2 a3 h3 a4 h4 a5 a6 a7 a8 a9 x0 x1 x2 x3) y = stage x0 x1 x2 x3 22 y := by
  unfold kernelRun0_A.sl.H4_30
  refine stage_step x0 x1 x2 x3 _ 21 (list_29 c a1 h1 a2 h2 a3 h3 a4 h4 a5 a6 a7 a8 a9 x0 x1 x2 x3) 5 512 _ _ (by decide) (by decide) (by decide) (fun x => ?_) y
  sl_unfold_run_values
  simp only [adj_rows, once_rows]
  rw [stage_old x0 x1 x2 x3 _ _ 21 (list_29 c a1 h1 a2 h2 a3 h3 a4 h4 a5 a6 a7 a8 a9 x0 x1 x2 x3) 5 512 _ (by decide) (by decide)]
  pointwise [k0_pay79, k0_pay76, k0_pay68, k0_pay59, k0_pay50, whole]
  blk_point []

/-- After 23 accumulating stores. -/
theorem list_31 (y : S8x1024x64.Idx) : View.canon (kernelRun0_A.sl.H4_31 (F := Ideal) c a1 h1 a2 h2 a3 h3 a4 h4 a5 a6 a7 a8 a9 x0 x1 x2 x3) y = stage x0 x1 x2 x3 23 y := by
  unfold kernelRun0_A.sl.H4_31
  refine stage_step x0 x1 x2 x3 _ 22 (list_30 c a1 h1 a2 h2 a3 h3 a4 h4 a5 a6 a7 a8 a9 x0 x1 x2 x3) 6 512 _ _ (by decide) (by decide) (by decide) (fun x => ?_) y
  sl_unfold_run_values
  simp only [adj_rows, once_rows]
  rw [stage_old x0 x1 x2 x3 _ _ 22 (list_30 c a1 h1 a2 h2 a3 h3 a4 h4 a5 a6 a7 a8 a9 x0 x1 x2 x3) 6 512 _ (by decide) (by decide)]
  pointwise [k0_pay79, k0_pay77, k0_pay68, k0_pay59, k0_pay50, whole]
  blk_point []

/-- After 24 accumulating stores. -/
theorem list_32 (y : S8x1024x64.Idx) : View.canon (kernelRun0_A.sl.H4_32 (F := Ideal) c a1 h1 a2 h2 a3 h3 a4 h4 a5 a6 a7 a8 a9 x0 x1 x2 x3) y = stage x0 x1 x2 x3 24 y := by
  unfold kernelRun0_A.sl.H4_32
  refine stage_step x0 x1 x2 x3 _ 23 (list_31 c a1 h1 a2 h2 a3 h3 a4 h4 a5 a6 a7 a8 a9 x0 x1 x2 x3) 7 512 _ _ (by decide) (by decide) (by decide) (fun x => ?_) y
  sl_unfold_run_values
  simp only [adj_rows, once_rows]
  rw [stage_old x0 x1 x2 x3 _ _ 23 (list_31 c a1 h1 a2 h2 a3 h3 a4 h4 a5 a6 a7 a8 a9 x0 x1 x2 x3) 7 512 _ (by decide) (by decide)]
  pointwise [k0_pay79, k0_pay78, k0_pay68, k0_pay59, k0_pay50, whole]
  blk_point []

/-- After 25 accumulating stores. -/
theorem list_33 (y : S8x1024x64.Idx) : View.canon (kernelRun0_A.sl.H4_33 (F := Ideal) c a1 h1 a2 h2 a3 h3 a4 h4 a5 a6 a7 a8 a9 x0 x1 x2 x3) y = stage x0 x1 x2 x3 25 y := by
  unfold kernelRun0_A.sl.H4_33
  refine stage_step x0 x1 x2 x3 _ 24 (list_32 c a1 h1 a2 h2 a3 h3 a4 h4 a5 a6 a7 a8 a9 x0 x1 x2 x3) 0 768 _ _ (by decide) (by decide) (by decide) (fun x => ?_) y
  sl_unfold_run_values
  simp only [adj_rows, once_rows]
  rw [stage_old x0 x1 x2 x3 _ _ 24 (list_32 c a1 h1 a2 h2 a3 h3 a4 h4 a5 a6 a7 a8 a9 x0 x1 x2 x3) 0 768 _ (by decide) (by decide)]
  pointwise [k0_pay81, k0_pay80, k0_pay79, k0_pay68, k0_pay59, k0_pay50, whole]
  blk_point []
  all_goals exact Fin.ext (by simp)

/-- After 26 accumulating stores. -/
theorem list_34 (y : S8x1024x64.Idx) : View.canon (kernelRun0_A.sl.H4_34 (F := Ideal) c a1 h1 a2 h2 a3 h3 a4 h4 a5 a6 a7 a8 a9 x0 x1 x2 x3) y = stage x0 x1 x2 x3 26 y := by
  unfold kernelRun0_A.sl.H4_34
  refine stage_step x0 x1 x2 x3 _ 25 (list_33 c a1 h1 a2 h2 a3 h3 a4 h4 a5 a6 a7 a8 a9 x0 x1 x2 x3) 1 768 _ _ (by decide) (by decide) (by decide) (fun x => ?_) y
  sl_unfold_run_values
  simp only [adj_rows, once_rows]
  rw [stage_old x0 x1 x2 x3 _ _ 25 (list_33 c a1 h1 a2 h2 a3 h3 a4 h4 a5 a6 a7 a8 a9 x0 x1 x2 x3) 1 768 _ (by decide) (by decide)]
  pointwise [k0_pay82, k0_pay79, k0_pay68, k0_pay59, k0_pay50, whole]
  blk_point []

/-- After 27 accumulating stores. -/
theorem list_35 (y : S8x1024x64.Idx) : View.canon (kernelRun0_A.sl.H4_35 (F := Ideal) c a1 h1 a2 h2 a3 h3 a4 h4 a5 a6 a7 a8 a9 x0 x1 x2 x3) y = stage x0 x1 x2 x3 27 y := by
  unfold kernelRun0_A.sl.H4_35
  refine stage_step x0 x1 x2 x3 _ 26 (list_34 c a1 h1 a2 h2 a3 h3 a4 h4 a5 a6 a7 a8 a9 x0 x1 x2 x3) 2 768 _ _ (by decide) (by decide) (by decide) (fun x => ?_) y
  sl_unfold_run_values
  simp only [adj_rows, once_rows]
  rw [stage_old x0 x1 x2 x3 _ _ 26 (list_34 c a1 h1 a2 h2 a3 h3 a4 h4 a5 a6 a7 a8 a9 x0 x1 x2 x3) 2 768 _ (by decide) (by decide)]
  pointwise [k0_pay83, k0_pay79, k0_pay68, k0_pay59, k0_pay50, whole]
  blk_point []

/-- After 28 accumulating stores. -/
theorem list_36 (y : S8x1024x64.Idx) : View.canon (kernelRun0_A.sl.H4_36 (F := Ideal) c a1 h1 a2 h2 a3 h3 a4 h4 a5 a6 a7 a8 a9 x0 x1 x2 x3) y = stage x0 x1 x2 x3 28 y := by
  unfold kernelRun0_A.sl.H4_36
  refine stage_step x0 x1 x2 x3 _ 27 (list_35 c a1 h1 a2 h2 a3 h3 a4 h4 a5 a6 a7 a8 a9 x0 x1 x2 x3) 3 768 _ _ (by decide) (by decide) (by decide) (fun x => ?_) y
  sl_unfold_run_values
  simp only [adj_rows, once_rows]
  rw [stage_old x0 x1 x2 x3 _ _ 27 (list_35 c a1 h1 a2 h2 a3 h3 a4 h4 a5 a6 a7 a8 a9 x0 x1 x2 x3) 3 768 _ (by decide) (by decide)]
  pointwise [k0_pay84, k0_pay79, k0_pay68, k0_pay59, k0_pay50, whole]
  blk_point []

/-- After 29 accumulating stores. -/
theorem list_37 (y : S8x1024x64.Idx) : View.canon (kernelRun0_A.sl.H4_37 (F := Ideal) c a1 h1 a2 h2 a3 h3 a4 h4 a5 a6 a7 a8 a9 x0 x1 x2 x3) y = stage x0 x1 x2 x3 29 y := by
  unfold kernelRun0_A.sl.H4_37
  refine stage_step x0 x1 x2 x3 _ 28 (list_36 c a1 h1 a2 h2 a3 h3 a4 h4 a5 a6 a7 a8 a9 x0 x1 x2 x3) 4 768 _ _ (by decide) (by decide) (by decide) (fun x => ?_) y
  sl_unfold_run_values
  simp only [adj_rows, once_rows]
  rw [stage_old x0 x1 x2 x3 _ _ 28 (list_36 c a1 h1 a2 h2 a3 h3 a4 h4 a5 a6 a7 a8 a9 x0 x1 x2 x3) 4 768 _ (by decide) (by decide)]
  pointwise [k0_pay86, k0_pay85, k0_pay79, k0_pay68, k0_pay59, k0_pay50, whole]
  blk_point []

/-- After 30 accumulating stores. -/
theorem list_38 (y : S8x1024x64.Idx) : View.canon (kernelRun0_A.sl.H4_38 (F := Ideal) c a1 h1 a2 h2 a3 h3 a4 h4 a5 a6 a7 a8 a9 x0 x1 x2 x3) y = stage x0 x1 x2 x3 30 y := by
  unfold kernelRun0_A.sl.H4_38
  refine stage_step x0 x1 x2 x3 _ 29 (list_37 c a1 h1 a2 h2 a3 h3 a4 h4 a5 a6 a7 a8 a9 x0 x1 x2 x3) 5 768 _ _ (by decide) (by decide) (by decide) (fun x => ?_) y
  sl_unfold_run_values
  simp only [adj_rows, once_rows]
  rw [stage_old x0 x1 x2 x3 _ _ 29 (list_37 c a1 h1 a2 h2 a3 h3 a4 h4 a5 a6 a7 a8 a9 x0 x1 x2 x3) 5 768 _ (by decide) (by decide)]
  pointwise [k0_pay87, k0_pay79, k0_pay68, k0_pay59, k0_pay50, whole]
  blk_point []

/-- After 31 accumulating stores. -/
theorem list_39 (y : S8x1024x64.Idx) : View.canon (kernelRun0_A.sl.H4_39 (F := Ideal) c a1 h1 a2 h2 a3 h3 a4 h4 a5 a6 a7 a8 a9 x0 x1 x2 x3) y = stage x0 x1 x2 x3 31 y := by
  unfold kernelRun0_A.sl.H4_39
  refine stage_step x0 x1 x2 x3 _ 30 (list_38 c a1 h1 a2 h2 a3 h3 a4 h4 a5 a6 a7 a8 a9 x0 x1 x2 x3) 6 768 _ _ (by decide) (by decide) (by decide) (fun x => ?_) y
  sl_unfold_run_values
  simp only [adj_rows, once_rows]
  rw [stage_old x0 x1 x2 x3 _ _ 30 (list_38 c a1 h1 a2 h2 a3 h3 a4 h4 a5 a6 a7 a8 a9 x0 x1 x2 x3) 6 768 _ (by decide) (by decide)]
  pointwise [k0_pay88, k0_pay79, k0_pay68, k0_pay59, k0_pay50, whole]
  blk_point []

end Lists

end Cert.KernelIdeal.Value

end

end
-- ==== Proof.Block.lean ====
/- The kernel's output block at one grid point is the whole value over the point's input blocks. -/
module

public import proofs.«01_k».proof.Proof.BlockOut

@[expose] public section

set_option maxRecDepth 16384

noncomputable section

open Idealize.ShloMosaic Idealize.ShloMosaic.TcCoe Idealize.SL.Sem

namespace Cert.KernelIdeal.Value

open Cert.KernelIdeal Cert.KernelIdeal.Gen

variable (c : Dev nD) (a1 : Memref sig .tc .vmem S8x1024x128 .f32) (h1 : a1.IsWhole) (a2 : Memref sig .tc .vmem S1024x1024 .f32) (h2 : a2.IsWhole)
  (a3 : Memref sig .tc .vmem S128x192 .bf16) (h3 : a3.IsWhole) (a4 : Memref sig .tc .vmem S1x64 .f32) (h4 : a4.IsWhole)
  (a5 : Memref sig .tc .vmem S8x1024x64 .f32) (a6 : Memref sig .tc .vmem S1024x1024 .bf16) (a7 a8 a9 : Memref sig .tc .vmem S1024x512 .bf16)
  (x0 : FVec Ideal S8x1024x128 .f32) (x1 : FVec Ideal S1024x1024 .f32) (x2 : FVec Ideal S128x192 .bf16) (x3 : FVec Ideal S1x64 .f32)

/-- All the body's stores together leave the whole value. -/
theorem out_list (i : grid0.Coords) (h5 : a5.IsWhole) (h6 : a6.IsWhole) (h7 : a7.IsWhole) (h8 : a8.IsWhole) (h9 : a9.IsWhole) (y : S8x1024x64.Idx) :
    View.canon (kernelRun0_A (F := Ideal) c i a1 h1 a2 h2 a3 h3 a4 h4 a5 h5 a6 h6 a7 h7 a8 h8 a9 h9 x0 x1 x2 x3).1 y = whole x0 x1 x2 x3 y := by
  dsimp only [kernelRun0_A]
  refine (stage_step x0 x1 x2 x3 _ 31 (list_39 c a1 h1 a2 h2 a3 h3 a4 h4 a5 a6 a7 a8 a9 x0 x1 x2 x3) 7 768 _ _ (by decide) (by decide)
    (by decide) (fun x => ?_) y).trans (if_pos ?_)
  · sl_unfold_run_values
    simp only [adj_rows, once_rows]
    rw [stage_old x0 x1 x2 x3 _ _ 31 (list_39 c a1 h1 a2 h2 a3 h3 a4 h4 a5 a6 a7 a8 a9 x0 x1 x2 x3) 7 768 _ (by decide) (by decide)]
    pointwise [k0_pay89, k0_pay79, whole]
    blk_point []
  · have h0 : (y 0).val < 8 := (y 0).isLt
    have h1 : (y 1).val < 1024 := (y 1).isLt
    omega

/-- The output block after grid point `t`. -/
theorem block_out (m : (ℓ : Loc nD τ sig) → Buf (Elt Ideal) ℓ) (c : Dev nD) (t : Fin cfg0.N) (y : S8x1024x64.Idx) :
    outsAt0 m c t y = whole (iblk m c 0 t) (iblk m c 1 t) (iblk m c 2 t) (iblk m c 3 t) y := by
  unfold outsAt0 out0_A_4
  rw [View.read_writes_junk_eq_canon]
  exact out_list c (ms0_0 t) (hs0_0 t) (ms0_1 t) (hs0_1 t) (ms0_2 t) (hs0_2 t) (ms0_3 t) (hs0_3 t) (ms0_4 t) scM0_0 scM0_1 scM0_2 scM0_3
    (iblk m c 0 t) (iblk m c 1 t) (iblk m c 2 t) (iblk m c 3 t) (grid0.coords t) (hs0_4 t) (Memref.isWhole_whole _) (Memref.isWhole_whole _) (Memref.isWhole_whole _)
    (Memref.isWhole_whole _) y

end Cert.KernelIdeal.Value

end

end
-- ==== Proof.Array.lean ====
/- The kernel's whole result array, as a function of the four arrays its windows read. -/
module

public import proofs.«01_k».proof.Proof.Block

@[expose] public section

set_option maxRecDepth 16384

noncomputable section

open Idealize.ShloMosaic Idealize.ShloMosaic.TcCoe Idealize.SL.Sem

namespace Cert.KernelIdeal.Value

open Cert.KernelIdeal Cert.KernelIdeal.Gen

/-- The three projections of batch element `b`, side by side: entry `(n, q)` of `x[b] · w`. -/
def rows (x : FVec Ideal S32x1024x128 .f32) (w : FVec Ideal S128x192 .bf16) (b : Fin 32) (n : Fin 1024) (q : Fin 192) : EReal :=
  ∑ k : Fin 128, (x (ix3 b n k) : EReal) * w (ix2 k q)

/-- The kernel's result array over the packed input, the adjacency, the packed weights and the bias row. -/
def outArr (x : FVec Ideal S32x1024x128 .f32) (a : FVec Ideal S1024x1024 .f32) (w : FVec Ideal S128x192 .bf16) (bi : FVec Ideal S1x64 .f32) :
    FVec Ideal S32x1024x64 .f32 := fun y =>
  (rows x w (y 0) (y 1) ⟨(y 2).val, by have := (y 2).isLt; change (y 2).val < 64 at this; omega⟩ + bi (ix2 0 (y 2))) +
    ∑ k : Fin 1024, (a (ix2 (y 1) k) : EReal) *
      (rows x w (y 0) k ⟨64 + (y 2).val, by have := (y 2).isLt; change (y 2).val < 64 at this; omega⟩ +
        ∑ p : Fin 1024, (a (ix2 k p) : EReal) *
          (two * rows x w (y 0) p ⟨128 + (y 2).val, by have := (y 2).isLt; change (y 2).val < 64 at this; omega⟩))

/-- A column `64 b + o` of the scratch layout belongs to batch element `b` and output feature `o`. -/
theorem once_at (x0 : FVec Ideal S8x1024x128 .f32) (x1 : FVec Ideal S1024x1024 .f32) (x2 : FVec Ideal S128x192 .bf16)
    (b : Fin 8) (n : Fin 1024) (o : Fin 64) :
    once x0 x1 x2 (ix2 n ⟨64 * b.val + o.val, by omega⟩) = proj x0 x2 b n ⟨64 + o.val, by omega⟩ +
      ∑ p : Fin 1024, (x1 (ix2 n p) : EReal) * (two * proj x0 x2 b p ⟨128 + o.val, by omega⟩) := by
  have hb : (⟨(64 * b.val + o.val) / 64, by omega⟩ : Fin 8) = b := Fin.ext (by show (64 * b.val + o.val) / 64 = b.val; omega)
  have h1 : (⟨64 + (64 * b.val + o.val) % 64, by omega⟩ : Fin 192) = ⟨64 + o.val, by omega⟩ := Fin.ext (by simp)
  have h2 : (⟨128 + (64 * b.val + o.val) % 64, by omega⟩ : Fin 192) = ⟨128 + o.val, by omega⟩ := Fin.ext (by simp)
  refine congrArg₂ (· + ·) ?_ (Finset.sum_congr rfl fun p _ => congrArg (fun z => (x1 (ix2 n p) : EReal) * (two * z)) ?_)
  · show proj x0 x2 ⟨(64 * b.val + o.val) / 64, _⟩ n ⟨64 + (64 * b.val + o.val) % 64, _⟩ = _
    rw [hb, h1]
  · show proj x0 x2 ⟨(64 * b.val + o.val) / 64, _⟩ p ⟨128 + (64 * b.val + o.val) % 64, _⟩ = _
    rw [hb, h2]

/-- At grid point `t` the windows of the input and of the result are at block `t` of the batch, the others at their one block. -/
theorem idx : ∀ t : Fin cfg0.N, win0_0.index t = ![t.val, 0, 0] ∧ win0_1.index t = ![0, 0] ∧ win0_2.index t = ![0, 0] ∧ win0_3.index t = ![0, 0] ∧
    win0_4.index t = ![t.val, 0, 0] :=
  (by decide +kernel : ∀ t : Fin grid0.N, _)

variable (m : (ℓ : Loc nD τ sig) → Buf (Elt Ideal) ℓ)

/-- A point's block value is the result array's, at the block's place in it. -/
theorem point (c : Dev nD) (t : Fin cfg0.N) (y : S8x1024x64.Idx) :
    whole (iblk m c 0 t) (iblk m c 1 t) (iblk m c 2 t) (iblk m c 3 t) y =
      outArr (V m c main_call0_v2) (V m c main_arg2) (V m c main_call0_v8) (V m c main_call0_v9) (((cfg0.win 4).blk t).view.emb y) := by
  have hw : ∀ (x0 : FVec Ideal S8x1024x128 .f32) (x1 : FVec Ideal S1024x1024 .f32) (x2 : FVec Ideal S128x192 .bf16) (x3 : FVec Ideal S1x64 .f32),
      whole x0 x1 x2 x3 y = first x0 x2 x3 y + ∑ k : Fin 1024, (x1 (ix2 (y 1) k) : EReal) *
        (proj x0 x2 (y 0) k ⟨64 + (y 2).val, by have := (y 2).isLt; change (y 2).val < 64 at this; omega⟩ +
          ∑ p : Fin 1024, (x1 (ix2 k p) : EReal) *
            (two * proj x0 x2 (y 0) p ⟨128 + (y 2).val, by have := (y 2).isLt; change (y 2).val < 64 at this; omega⟩)) := fun x0 x1 x2 x3 =>
    congrArg (first x0 x2 x3 y + ·) (Finset.sum_congr rfl fun k _ => congrArg (x1 (ix2 (y 1) k) * ·) (once_at x0 x1 x2 (y 0) k (y 2)))
  rw [hw]
  unfold outArr first proj rows
  blk_point [iblk, idx t]

/-- The result array after the run. -/
theorem final (c : Dev nD) : (dats m 0 c).arrAt 4 (cfgs 0).N =
    outArr (V m c main_call0_v2) (V m c main_arg2) (V m c main_call0_v8) (V m c main_call0_v9) := by
  refine (dats m 0 c).arrAt_eq_of_covers 4 _ (by decide +kernel) fun t _ y => ?_
  blk_simp
  rw [after0_4]
  exact (block_out m c t y).trans (point m c t y)

end Cert.KernelIdeal.Value

end

end
-- ==== Proof.Pack.lean ====
/- What the operations before the kernel put into the arrays its windows read, entry by entry over the arguments. -/
module

public import proofs.«01_k».proof.Proof.Gen.KernelIdeal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen

/-- The packed input at batch element `b`, node `n`, feature `f`: the inputs' 64 features first, then the state's 64. -/
def inp (A0 A1 : FVec Ideal S32x65536 .f32) (b : Fin 32) (n : Fin 1024) (f : Fin 128) : EReal :=
  if h : f.val < 64 then A0 (ix2 b ⟨n.val * 64 + f.val, by omega⟩) else A1 (ix2 b ⟨n.val * 64 + (f.val - 64), by omega⟩)

/-- Weight row `i + 3 f`: feature `f` of the `i`-th diffusion term. -/
def wt (A3 : FVec Ideal S384x64 .f32) (f : Fin 128) (i : Fin 3) (o : Fin 64) : EReal := A3 (ix2 ⟨i.val + 3 * f.val, by omega⟩ o)

variable (m : (ℓ : Loc nD τ sig) → Buf (Elt Ideal) ℓ)

/-- The packed input is the two reshaped inputs side by side. -/
theorem V_v2 (c : Dev nD) : (V m c main_call0_v2 : FVec Ideal S32x1024x128 .f32) = concatenate S32x1024x128 2
    [⟨S32x1024x64, shapeCast _ (m ((c : Thread nD τ).loc main_arg0) : FVec Ideal S32x65536 .f32) shapeCasts_S32x65536_S32x1024x64⟩,
      ⟨S32x1024x64, shapeCast _ (m ((c : Thread nD τ).loc main_arg1) : FVec Ideal S32x65536 .f32) shapeCasts_S32x65536_S32x1024x64⟩]
    concatenates_S32x1024x64_S32x1024x64_S32x1024x128_d2 := by
  show StableHlo.after hostOps0 _ _ = _
  after_results
  rfl

/-- The packed weights are three strided thirds of the weight rows side by side, the first less the third. -/
theorem V_v8 (c : Dev nD) : (V m c main_call0_v8 : FVec Ideal S128x192 .bf16) = (truncf (F := Ideal) .bf16 (concatenate S128x192 1
    [⟨S128x64, subf (Host.slice S128x64 ![0, 0] ![3, 1] (m ((c : Thread nD τ).loc main_arg3) : FVec Ideal S384x64 .f32) slicesBy_S384x64_S128x64_0s3_0s1)
        (Host.slice S128x64 ![2, 0] ![3, 1] (m ((c : Thread nD τ).loc main_arg3) : FVec Ideal S384x64 .f32) slicesBy_S384x64_S128x64_2s3_0s1)⟩,
      ⟨S128x64, Host.slice S128x64 ![1, 0] ![3, 1] (m ((c : Thread nD τ).loc main_arg3) : FVec Ideal S384x64 .f32) slicesBy_S384x64_S128x64_1s3_0s1⟩,
      ⟨S128x64, Host.slice S128x64 ![2, 0] ![3, 1] (m ((c : Thread nD τ).loc main_arg3) : FVec Ideal S384x64 .f32) slicesBy_S384x64_S128x64_2s3_0s1⟩]
    concatenates_S128x64_S128x64_S128x64_S128x192_d1) bitsLt_bf16_f32 : FVec Ideal S128x192 .bf16) := by
  show StableHlo.after hostOps0 _ _ = _
  after_results
  rfl

/-- The bias row is the bias reshaped. -/
theorem V_v9 (c : Dev nD) : (V m c main_call0_v9 : FVec Ideal S1x64 .f32) = shapeCast _ (m ((c : Thread nD τ).loc main_arg4) : FVec Ideal S64 .f32) shapeCasts_S64_S1x64 := by
  show StableHlo.after hostOps0 _ _ = _
  after_results
  rfl

/-- The packed input the kernel reads. -/
theorem packed_input (c : Dev nD) (b : Fin 32) (n : Fin 1024) (f : Fin 128) :
    V m c main_call0_v2 (ix3 b n f) = inp (m ((c : Thread nD τ).loc main_arg0)) (m ((c : Thread nD τ).loc main_arg1)) b n f := by
  rw [V_v2]
  pointwise [inp]

/-- The packed weights' first 64 columns: the first term's weights less the third's. -/
theorem packed_w0 (c : Dev nD) (k : Fin 128) (o : Fin 64) :
    V m c main_call0_v8 (ix2 k ⟨o.val, by omega⟩) = wt (m ((c : Thread nD τ).loc main_arg3)) k 0 o - wt (m ((c : Thread nD τ).loc main_arg3)) k 2 o := by
  rw [V_v8]
  pointwise [wt]

/-- The next 64 columns: the second term's weights. -/
theorem packed_w1 (c : Dev nD) (k : Fin 128) (o : Fin 64) :
    V m c main_call0_v8 (ix2 k ⟨64 + o.val, by omega⟩) = wt (m ((c : Thread nD τ).loc main_arg3)) k 1 o := by
  rw [V_v8]
  pointwise [wt]

/-- The last 64 columns: the third term's weights. -/
theorem packed_w2 (c : Dev nD) (k : Fin 128) (o : Fin 64) :
    V m c main_call0_v8 (ix2 k ⟨128 + o.val, by omega⟩) = wt (m ((c : Thread nD τ).loc main_arg3)) k 2 o := by
  rw [V_v8]
  pointwise [wt]
  rw [dif_neg (by omega), dif_neg (by omega)]
  exact congrArg _ (congrArg (ix2 _) (Fin.ext (by show 128 + o.val - 64 - 64 = o.val; omega)))

/-- The bias row. -/
theorem packed_bias (c : Dev nD) (z : Fin 1) (o : Fin 64) : V m c main_call0_v9 (ix2 z o) = m ((c : Thread nD τ).loc main_arg4) (ix1 o) := by
  rw [V_v9]
  pointwise

end Cert.KernelIdeal.Value

end

end
-- ==== Proof.Kernel.lean ====
/- The kernel program's result, entry by entry over the arguments. -/
module

public import proofs.«01_k».proof.Proof.Array
public import proofs.«01_k».proof.Proof.Pack

@[expose] public section

set_option maxRecDepth 16384

noncomputable section

open Idealize.ShloMosaic Idealize.ShloMosaic.TcCoe Idealize.SL.Sem

namespace Cert.KernelIdeal.Value

open Cert.KernelIdeal Cert.KernelIdeal.Gen

/-- The kernel's value at batch element `b`, node `n`, output feature `o`, over the arguments. -/
def kval (A0 A1 : FVec Ideal S32x65536 .f32) (A2 : FVec Ideal S1024x1024 .f32) (A3 : FVec Ideal S384x64 .f32) (A4 : FVec Ideal S64 .f32)
    (b : Fin 32) (n : Fin 1024) (o : Fin 64) : EReal :=
  ((∑ f : Fin 128, inp A0 A1 b n f * (wt A3 f 0 o - wt A3 f 2 o)) + A4 (ix1 o)) +
    ∑ k : Fin 1024, (A2 (ix2 n k) : EReal) * ((∑ f : Fin 128, inp A0 A1 b k f * wt A3 f 1 o) +
      ∑ p : Fin 1024, (A2 (ix2 k p) : EReal) * (two * ∑ f : Fin 128, inp A0 A1 b p f * wt A3 f 2 o))

variable (m : (ℓ : Loc nD τ sig) → Buf (Elt Ideal) ℓ)

/-- The result array's entry, where the packed arrays read as the arguments. -/
theorem outArr_of (x : FVec Ideal S32x1024x128 .f32) (a : FVec Ideal S1024x1024 .f32) (w : FVec Ideal S128x192 .bf16) (bi : FVec Ideal S1x64 .f32)
    (A0 A1 : FVec Ideal S32x65536 .f32) (A3 : FVec Ideal S384x64 .f32) (A4 : FVec Ideal S64 .f32) (b : Fin 32) (n : Fin 1024) (o : Fin 64)
    (hx : ∀ n f, x (ix3 b n f) = inp A0 A1 b n f) (h0 : ∀ f : Fin 128, w (ix2 f ⟨o.val, by omega⟩) = wt A3 f 0 o - wt A3 f 2 o)
    (h1 : ∀ f : Fin 128, w (ix2 f ⟨64 + o.val, by omega⟩) = wt A3 f 1 o) (h2 : ∀ f : Fin 128, w (ix2 f ⟨128 + o.val, by omega⟩) = wt A3 f 2 o)
    (hb : bi (ix2 0 o) = A4 (ix1 o)) : outArr x a w bi (ix3 b n o) = kval A0 A1 a A3 A4 b n o := by
  have r0 (n) : rows x w b n ⟨o.val, by omega⟩ = _ := Finset.sum_congr rfl fun k _ => congrArg₂ (· * ·) (hx n k) (h0 k)
  have r1 (n) : rows x w b n ⟨64 + o.val, by omega⟩ = _ := Finset.sum_congr rfl fun k _ => congrArg₂ (· * ·) (hx n k) (h1 k)
  have r2 (n) : rows x w b n ⟨128 + o.val, by omega⟩ = _ := Finset.sum_congr rfl fun k _ => congrArg₂ (· * ·) (hx n k) (h2 k)
  exact congrArg₂ (· + ·) (congrArg₂ (· + ·) (r0 n) hb) (Finset.sum_congr rfl fun k _ => congrArg (fun z => (a (ix2 n k) : EReal) * z)
    (congrArg₂ (· + ·) (r1 k) (Finset.sum_congr rfl fun p _ => congrArg (fun z => (a (ix2 k p) : EReal) * (two * z)) (r2 p))))

/-- The result array over the arguments. -/
theorem outArr_at (c : Dev nD) (b : Fin 32) (n : Fin 1024) (o : Fin 64) :
    outArr (V m c main_call0_v2) (V m c main_arg2) (V m c main_call0_v8) (V m c main_call0_v9) (ix3 b n o) =
      kval (m ((c : Thread nD τ).loc main_arg0)) (m ((c : Thread nD τ).loc main_arg1)) (m ((c : Thread nD τ).loc main_arg2))
        (m ((c : Thread nD τ).loc main_arg3)) (m ((c : Thread nD τ).loc main_arg4)) b n o := by
  rw [show V m c main_arg2 = m ((c : Thread nD τ).loc main_arg2) from V_main_arg2 m c]
  exact outArr_of _ _ _ _ _ _ _ _ b n o (fun n f => packed_input m c b n f) (fun f => packed_w0 m c f o) (fun f => packed_w1 m c f o)
    (fun f => packed_w2 m c f o) (packed_bias m c 0 o)

/-- What the program leaves in its result buffer: the kernel's result array, reshaped. -/
theorem tail (c : Dev nD) : (Pipeline.afterTail₀ cfgs (dats m) 0 (V0 m) [hostOps1] c main_v0 : FVec Ideal S32x65536 .f32) =
    shapeCast _ ((dats m 0 c).arrAt 4 (cfgs 0).N : FVec Ideal S32x1024x64 .f32) shapeCasts_S32x1024x64_S32x65536 := by
  show StableHlo.after hostOps1 _ _ = _
  after_results
  refine (congrArg (fun z : FVec Ideal S32x1024x64 .f32 => shapeCast S32x65536 z shapeCasts_S32x1024x64_S32x65536)
    (Pipeline.withArrays_arr (cfgs 0).spec launch0.win.arr_inj c (V0 m c) (fun w => (dats m 0 c).arrAt w (cfgs 0).N) 4) :)

/-- The program's result at row `b`, column `64 n + o`. -/
theorem kernel_value (c : Dev nD) (i : S32x65536.Idx) :
    (Pipeline.afterTail₀ cfgs (dats m) 0 (V0 m) [hostOps1] c main_v0 : FVec Ideal S32x65536 .f32) i =
      kval (m ((c : Thread nD τ).loc main_arg0)) (m ((c : Thread nD τ).loc main_arg1)) (m ((c : Thread nD τ).loc main_arg2))
        (m ((c : Thread nD τ).loc main_arg3)) (m ((c : Thread nD τ).loc main_arg4)) (i 0)
        ⟨(i 1).val / 64, by have := (i 1).isLt; change (i 1).val < 65536 at this; omega⟩ ⟨(i 1).val % 64, by omega⟩ := by
  rw [tail, final]
  refine Eq.trans ?_ (outArr_at m c _ _ _)
  generalize outArr (V m c main_call0_v2) (V m c main_arg2) (V m c main_call0_v8) (V m c main_call0_v9) = X
  pointwise

end Cert.KernelIdeal.Value

end

end
-- ==== Proof.Reference.lean ====
/- The reference's result, entry by entry over its arguments. -/
module

public import proofs.«01_k».proof.ReferenceIdeal
public import proofs.«01_k».proof.Proof.Gen.ReferenceIdeal
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- Rows `(b, n)` of length `L` read as one row `b` of length `N L`. -/
theorem split_rows {α : Type} {R L B N C : ℕ} (x : (⟨2, ![R, L]⟩ : Shape).Idx → α) (h : (⟨2, ![R, L]⟩ : Shape).ShapeCasts ⟨2, ![B, C]⟩) (hC : C = N * L)
    (b : Fin B) (n : ℕ) (o : Fin L) (hc : n * L + o.val < C) (hr : b.val * N + n < R) :
    shapeCast ⟨2, ![B, C]⟩ x h (ix2 b ⟨n * L + o.val, hc⟩) = x (ix2 ⟨b.val * N + n, hr⟩ o) := by
  subst hC
  refine congrArg x (Shape.reshapeEquiv_eq_of_vals h _ _ _ _ (rowMajor_val2 _ L rfl) (rowMajor_val2 _ (N * L) rfl) ?_)
  show (b.val * N + n) * L + o.val = b.val * (N * L) + (n * L + o.val)
  ring

/-- Four axes merged into two, the first two and the last two together. -/
theorem merge_pairs {α : Type} {B N F I R C : ℕ} (x : (⟨4, ![B, N, F, I]⟩ : Shape).Idx → α) (h : (⟨4, ![B, N, F, I]⟩ : Shape).ShapeCasts ⟨2, ![R, C]⟩)
    (hC : C = F * I) (b : Fin B) (n : Fin N) (f : Fin F) (i : Fin I) (hr : b.val * N + n.val < R) (hc : f.val * I + i.val < C) :
    shapeCast ⟨2, ![R, C]⟩ x h (ix2 ⟨b.val * N + n.val, hr⟩ ⟨f.val * I + i.val, hc⟩) = x (ix4 b n f i) := by
  subst hC
  refine congrArg x (Shape.reshapeEquiv_eq_of_vals h _ _ _ _ (rowMajor_val4 _ (N * (F * I)) (F * I) I rfl rfl rfl) (rowMajor_val2 _ (F * I) rfl) ?_)
  show b.val * (N * (F * I)) + n.val * (F * I) + f.val * I + i.val = (b.val * N + n.val) * (F * I) + (f.val * I + i.val)
  ring

/-- The first diffusion term: the inputs packed to nodes by (feature, batch element). -/
def x0Arr (A0 A1 : FVec Ideal S32x65536 .f32) : FVec Ideal S1024x4096 .f32 :=
  shapeCast _ (transpose S1024x128x32 [1, 2, 0] (concatenate S32x1024x128 2
    [⟨S32x1024x64, shapeCast _ A0 shapeCasts_S32x65536_S32x1024x64⟩, ⟨S32x1024x64, shapeCast _ A1 shapeCasts_S32x65536_S32x1024x64⟩]
    concatenates_S32x1024x64_S32x1024x64_S32x1024x128_d2) transposes_S32x1024x128_S1024x128x32_1_2_0) shapeCasts_S1024x128x32_S1024x4096

/-- One diffusion step: the adjacency times the term. -/
def step (A2 : FVec Ideal S1024x1024 .f32) (X : FVec Ideal S1024x4096 .f32) : FVec Ideal S1024x4096 .f32 :=
  Host.dotGeneral dot_S1024x1024_S1024x4096_S1024x4096_1_0_0_1_n_n none A2 X

/-- The third term of the recurrence: twice a step of the second, less the first. -/
def third (A2 : FVec Ideal S1024x1024 .f32) (X : FVec Ideal S1024x4096 .f32) : FVec Ideal S1024x4096 .f32 :=
  subf (mulf (broadcastInDim S1024x4096 ![] bcast_S_S1024x4096 (constant (F := Ideal) S_ .f32 0x40000000#32)) (step A2 (step A2 X))) X

/-- The three terms stacked and laid out as one row per (batch element, node). -/
def table (X Y Z : FVec Ideal S1024x4096 .f32) : FVec Ideal S32768x384 .f32 :=
  shapeCast _ (transpose S32x1024x128x3 [3, 1, 2, 0] (shapeCast _ (concatenate S3x1024x4096 0
    [⟨S1x1024x4096, broadcastInDim S1x1024x4096 ![1, 2] bcast_S1024x4096_S1x1024x4096_1_2 X⟩,
      ⟨S1x1024x4096, broadcastInDim S1x1024x4096 ![1, 2] bcast_S1024x4096_S1x1024x4096_1_2 Y⟩,
      ⟨S1x1024x4096, broadcastInDim S1x1024x4096 ![1, 2] bcast_S1024x4096_S1x1024x4096_1_2 Z⟩]
    concatenates_S1x1024x4096_S1x1024x4096_S1x1024x4096_S3x1024x4096_d0) shapeCasts_S3x1024x4096_S3x1024x128x32)
    transposes_S3x1024x128x32_S32x1024x128x3_3_1_2_0) shapeCasts_S32x1024x128x3_S32768x384

/-- The reference's result over its arguments. -/
def ref (A0 A1 : FVec Ideal S32x65536 .f32) (A2 : FVec Ideal S1024x1024 .f32) (A3 : FVec Ideal S384x64 .f32) (A4 : FVec Ideal S64 .f32) :
    FVec Ideal S32x65536 .f32 :=
  shapeCast _ (addf (Host.dotGeneral dot_S32768x384_S384x64_S32768x64_1_0_0_1_n_n none
    (table (x0Arr A0 A1) (step A2 (x0Arr A0 A1)) (third A2 (x0Arr A0 A1))) A3)
    (broadcastInDim S32768x64 ![0, 1] bcast_S1x64_S32768x64_0_1 (broadcastInDim S1x64 ![1] bcast_S64_S1x64_1 A4))) shapeCasts_S32768x64_S32x65536

/-- The packed input at node `n`, feature `f`, batch element `b`. -/
def inp (A0 A1 : FVec Ideal S32x65536 .f32) (b : Fin 32) (n : Fin 1024) (f : Fin 128) : EReal :=
  if h : f.val < 64 then A0 (ix2 b ⟨n.val * 64 + f.val, by omega⟩) else A1 (ix2 b ⟨n.val * 64 + (f.val - 64), by omega⟩)

/-- The first term's entries. -/
theorem x0Arr_at (A0 A1 : FVec Ideal S32x65536 .f32) (b : Fin 32) (n : Fin 1024) (f : Fin 128) :
    x0Arr A0 A1 (ix2 n ⟨f.val * 32 + b.val, by omega⟩) = inp A0 A1 b n f := by
  pointwise [x0Arr, inp]

/-- A diffusion step's entries. -/
theorem step_at (A2 : FVec Ideal S1024x1024 .f32) (X : FVec Ideal S1024x4096 .f32) (n : Fin 1024) (q : Fin 4096) :
    step A2 X (ix2 n q) = ∑ k : Fin 1024, (A2 (ix2 n k) : EReal) * X (ix2 k q) := by
  pointwise [step]

/-- The third term's entries. -/
theorem third_at (A2 : FVec Ideal S1024x1024 .f32) (X : FVec Ideal S1024x4096 .f32) (n : Fin 1024) (q : Fin 4096) :
    third A2 X (ix2 n q) = Ideal.ofBits .f32 0x40000000#32 * step A2 (step A2 X) (ix2 n q) - X (ix2 n q) := by
  pointwise [third]

/-- The three terms, stacked: entry `(b, n, f, i)`. -/
def stacked (X Y Z : FVec Ideal S1024x4096 .f32) : FVec Ideal S32x1024x128x3 .f32 :=
  transpose S32x1024x128x3 [3, 1, 2, 0] (shapeCast _ (concatenate S3x1024x4096 0
    [⟨S1x1024x4096, broadcastInDim S1x1024x4096 ![1, 2] bcast_S1024x4096_S1x1024x4096_1_2 X⟩,
      ⟨S1x1024x4096, broadcastInDim S1x1024x4096 ![1, 2] bcast_S1024x4096_S1x1024x4096_1_2 Y⟩,
      ⟨S1x1024x4096, broadcastInDim S1x1024x4096 ![1, 2] bcast_S1024x4096_S1x1024x4096_1_2 Z⟩]
    concatenates_S1x1024x4096_S1x1024x4096_S1x1024x4096_S3x1024x4096_d0) shapeCasts_S3x1024x4096_S3x1024x128x32)
    transposes_S3x1024x128x32_S32x1024x128x3_3_1_2_0

/-- The stack's entries. -/
theorem stacked_at (X Y Z : FVec Ideal S1024x4096 .f32) (b : Fin 32) (n : Fin 1024) (f : Fin 128) (i : Fin 3) :
    stacked X Y Z (ix4 b n f i) = (![X, Y, Z] i) (ix2 n ⟨f.val * 32 + b.val, by omega⟩) := by
  match i with
  | ⟨0, _⟩ => pointwise [stacked]
  | ⟨1, _⟩ => pointwise [stacked]
  | ⟨2, _⟩ => pointwise [stacked]

/-- A row of the table: the three terms of each feature in turn. -/
theorem table_at (X Y Z : FVec Ideal S1024x4096 .f32) (b : Fin 32) (n : Fin 1024) (f : Fin 128) (i : Fin 3) :
    table X Y Z (ix2 ⟨b.val * 1024 + n.val, by omega⟩ ⟨f.val * 3 + i.val, by omega⟩) =
      (![X, Y, Z] i) (ix2 n ⟨f.val * 32 + b.val, by omega⟩) :=
  (merge_pairs (stacked X Y Z) shapeCasts_S32x1024x128x3_S32768x384 rfl b n f i _ _).trans (stacked_at X Y Z b n f i)

/-- The table times the weights, plus the bias. -/
theorem body_at (T : FVec Ideal S32768x384 .f32) (A3 : FVec Ideal S384x64 .f32) (A4 : FVec Ideal S64 .f32) (r : Fin 32768) (o : Fin 64) :
    addf (Host.dotGeneral dot_S32768x384_S384x64_S32768x64_1_0_0_1_n_n none T A3)
      (broadcastInDim S32768x64 ![0, 1] bcast_S1x64_S32768x64_0_1 (broadcastInDim S1x64 ![1] bcast_S64_S1x64_1 A4)) (ix2 r o) =
      (∑ l : Fin 384, (T (ix2 r l) : EReal) * A3 (ix2 l o)) + A4 (ix1 o) := by
  pointwise

/-- The weight of feature `f` at diffusion term `i` for output feature `o`. -/
def wt (A3 : FVec Ideal S384x64 .f32) (f : Fin 128) (i : Fin 3) (o : Fin 64) : EReal := A3 (ix2 ⟨f.val * 3 + i.val, by omega⟩ o)

/-- A sum over the table's columns, feature by feature. -/
theorem sum_triples (g : Fin 384 → EReal) :
    ∑ l, g l = ∑ f : Fin 128, ∑ i : Fin 3, g ⟨f.val * 3 + i.val, by omega⟩ := by
  rw [← Equiv.sum_comp (finProdFinEquiv : Fin 128 × Fin 3 ≃ Fin (128 * 3)) g, Fintype.sum_prod_type]
  refine Finset.sum_congr rfl fun f _ => Finset.sum_congr rfl fun i _ => congrArg g (Fin.ext ?_)
  show i.val + 3 * f.val = f.val * 3 + i.val
  ring

/-- The reference's value at batch element `b`, node `n`, output feature `o`. -/
def rval (A0 A1 : FVec Ideal S32x65536 .f32) (A2 : FVec Ideal S1024x1024 .f32) (A3 : FVec Ideal S384x64 .f32) (A4 : FVec Ideal S64 .f32)
    (b : Fin 32) (n : Fin 1024) (o : Fin 64) : EReal :=
  (∑ f : Fin 128, (inp A0 A1 b n f * wt A3 f 0 o + (∑ k : Fin 1024, (A2 (ix2 n k) : EReal) * inp A0 A1 b k f) * wt A3 f 1 o +
    (Ideal.ofBits .f32 0x40000000#32 * (∑ k : Fin 1024, (A2 (ix2 n k) : EReal) * ∑ p : Fin 1024, (A2 (ix2 k p) : EReal) * inp A0 A1 b p f) -
      inp A0 A1 b n f) * wt A3 f 2 o)) + A4 (ix1 o)

/-- The second term's entries over the arguments. -/
theorem second_inp (A0 A1 : FVec Ideal S32x65536 .f32) (A2 : FVec Ideal S1024x1024 .f32) (b : Fin 32) (n : Fin 1024) (f : Fin 128) :
    step A2 (x0Arr A0 A1) (ix2 n ⟨f.val * 32 + b.val, by omega⟩) = ∑ k : Fin 1024, (A2 (ix2 n k) : EReal) * inp A0 A1 b k f :=
  (step_at _ _ _ _).trans (Finset.sum_congr rfl fun k _ => congrArg ((A2 (ix2 n k) : EReal) * ·) (x0Arr_at A0 A1 b k f))

/-- The third term's entries over the arguments. -/
theorem third_inp (A0 A1 : FVec Ideal S32x65536 .f32) (A2 : FVec Ideal S1024x1024 .f32) (b : Fin 32) (n : Fin 1024) (f : Fin 128) :
    third A2 (x0Arr A0 A1) (ix2 n ⟨f.val * 32 + b.val, by omega⟩) = Ideal.ofBits .f32 0x40000000#32 *
      (∑ k : Fin 1024, (A2 (ix2 n k) : EReal) * ∑ p : Fin 1024, (A2 (ix2 k p) : EReal) * inp A0 A1 b p f) - inp A0 A1 b n f :=
  (third_at _ _ _ _).trans (congrArg₂ (Ideal.ofBits .f32 0x40000000#32 * · - ·) ((step_at _ _ _ _).trans
    (Finset.sum_congr rfl fun k _ => congrArg ((A2 (ix2 n k) : EReal) * ·) (second_inp A0 A1 A2 b k f))) (x0Arr_at A0 A1 b n f))

/-- The reference's result at row `b`, column `64 n + o`. -/
theorem ref_at (A0 A1 : FVec Ideal S32x65536 .f32) (A2 : FVec Ideal S1024x1024 .f32) (A3 : FVec Ideal S384x64 .f32) (A4 : FVec Ideal S64 .f32)
    (b : Fin 32) (n : Fin 1024) (o : Fin 64) : ref A0 A1 A2 A3 A4 (ix2 b ⟨n.val * 64 + o.val, by omega⟩) = rval A0 A1 A2 A3 A4 b n o := by
  refine (split_rows (N := 1024) _ shapeCasts_S32768x64_S32x65536 rfl b n.val o _ (by omega)).trans ((body_at _ _ _ _ _).trans ?_)
  refine congrArg (· + (A4 (ix1 o) : EReal)) ((sum_triples _).trans (Finset.sum_congr rfl fun f _ => ?_))
  rw [Fin.sum_univ_three]
  exact congrArg₂ (· + ·) (congrArg₂ (· + ·)
    (congrArg (· * wt A3 f 0 o) ((table_at _ _ _ b n f 0).trans (x0Arr_at A0 A1 b n f)))
    (congrArg (· * wt A3 f 1 o) ((table_at _ _ _ b n f 1).trans (second_inp A0 A1 A2 b n f))))
    (congrArg (· * wt A3 f 2 o) ((table_at _ _ _ b n f 2).trans (third_inp A0 A1 A2 b n f)))

end Cert.ReferenceIdeal.Value

end

end
-- ==== Proof.Equation.lean ====
/- The equation between the kernel's value and the reference's, over extended reals that are real numbers. -/
module

public import Mathlib.Data.EReal.Operations
public import Mathlib.Algebra.BigOperators.Ring.Finset
public import Mathlib.Algebra.BigOperators.Fin
public import Mathlib.Tactic.Ring
public import Mathlib.Tactic.Choose

@[expose] public section

noncomputable section

namespace Cert.Equation

/-- A finite sum of reals, read as an extended real. -/
theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- Combining rows and then weighing them is weighing each row and then combining. -/
theorem weigh_rows {N F : ℕ} (c : Fin N → ℝ) (x : Fin N → Fin F → ℝ) (w : Fin F → ℝ) :
    ∑ f, (∑ k, c k * x k f) * w f = ∑ k, c k * ∑ f, x k f * w f := by
  simp only [Finset.sum_mul, Finset.mul_sum]
  rw [Finset.sum_comm]
  exact Finset.sum_congr rfl fun _ _ => Finset.sum_congr rfl fun _ _ => mul_assoc _ _ _

/-- Over the reals: the diffusion of the weighed inputs is the weighing of the diffused inputs. -/
theorem diffusion {N F : ℕ} (x : Fin N → Fin F → ℝ) (a : Fin N → Fin N → ℝ) (w0 w1 w2 : Fin F → ℝ) (t : ℝ) (n : Fin N) :
    (∑ f, x n f * (w0 f - w2 f)) + ∑ k, a n k * ((∑ f, x k f * w1 f) + ∑ p, a k p * (t * ∑ f, x p f * w2 f)) =
      ∑ f, (x n f * w0 f + (∑ k, a n k * x k f) * w1 f + (t * (∑ k, a n k * ∑ p, a k p * x p f) - x n f) * w2 f) := by
  have h1 := weigh_rows (a n) x w1
  have h2 : ∑ f, (∑ k, a n k * ∑ p, a k p * x p f) * w2 f = ∑ k, a n k * ∑ p, a k p * ∑ f, x p f * w2 f :=
    (weigh_rows (a n) (fun k f => ∑ p, a k p * x p f) w2).trans
      (Finset.sum_congr rfl fun k _ => congrArg (a n k * ·) (weigh_rows (a k) x w2))
  have h3 : ∑ k, a n k * ∑ p, a k p * (t * ∑ f, x p f * w2 f) = t * ∑ k, a n k * ∑ p, a k p * ∑ f, x p f * w2 f := by
    simp only [mul_left_comm _ t, ← Finset.mul_sum]
  simp only [mul_add, sub_mul, mul_sub, mul_assoc t, Finset.sum_add_distrib, Finset.sum_sub_distrib]
  rw [h1, h3, ← Finset.mul_sum, h2]
  ring

/-- The kernel's value is the reference's, where every factor of a product is a real number; of the bias `β` nothing is asked. -/
theorem values_eq {N F : ℕ} (x : Fin N → Fin F → EReal) (a : Fin N → Fin N → EReal) (w0 w1 w2 : Fin F → EReal) (t β : EReal) (n : Fin N)
    (hx : ∀ n f, ∃ r : ℝ, x n f = r) (ha : ∀ n k, ∃ r : ℝ, a n k = r) (h0 : ∀ f, ∃ r : ℝ, w0 f = r) (h1 : ∀ f, ∃ r : ℝ, w1 f = r)
    (h2 : ∀ f, ∃ r : ℝ, w2 f = r) (ht : ∃ r : ℝ, t = r) :
    ((∑ f, x n f * (w0 f - w2 f)) + β) + ∑ k, a n k * ((∑ f, x k f * w1 f) + ∑ p, a k p * (t * ∑ f, x p f * w2 f)) =
      (∑ f, (x n f * w0 f + (∑ k, a n k * x k f) * w1 f + (t * (∑ k, a n k * ∑ p, a k p * x p f) - x n f) * w2 f)) + β := by
  choose x' hx using hx
  choose a' ha using ha
  choose u0 h0 using h0
  choose u1 h1 using h1
  choose u2 h2 using h2
  obtain ⟨t', rfl⟩ := ht
  rw [add_right_comm]
  simp only [hx, ha, h0, h1, h2, ← EReal.coe_mul, ← EReal.coe_sub, ← coe_sum, ← EReal.coe_add]
  rw [diffusion]

end Cert.Equation

end

end
-- ==== Proof.Finite.lean ====
/- The precondition read back: what it says of each entry of the arrays it names. -/
module

public import proofs.«01_k».proof.Pre_finite
public import proofs.«01_k».proof.Proof.Gen.Pre_finite
public import Idealize.ShloMosaic.Lib.ReduceAll
public import Idealize.ShloMosaic.Lib.Pointwise

@[expose] public section

set_option maxRecDepth 16384

noncomputable section

open Idealize.ShloMosaic Idealize.SL.Sem

namespace Cert.Pre_finite.Value

open Cert.Pre_finite Cert.Pre_finite.Gen

/-- A value whose absolute value is below infinity is a real number. -/
theorem real_of_lt (x : EReal) (h : FloatOps.cmpf .olt (FloatOps.hostAbsf (F := Ideal) (φ := .f32) x) (FloatOps.ofBits (F := Ideal) .f32 0x7F800000#32) = 1#1) :
    ∃ r : ℝ, x = r := by
  have top : Ideal.ofBits .f32 0x7F800000#32 = ⊤ := by simp [Ideal.ofBits, Ideal.ieee]
  change Ideal.cmp .olt (max x (-x)) (Ideal.ofBits .f32 0x7F800000#32) = 1#1 at h
  rw [top] at h
  induction x with
  | bot => simp [Ideal.cmp] at h
  | top => simp [Ideal.cmp] at h
  | coe r => exact ⟨r, rfl⟩

/-- The constant two is a real number. -/
theorem two_real : ∃ r : ℝ, Ideal.ofBits .f32 0x40000000#32 = r :=
  ⟨_, by simp [Ideal.ofBits, Ideal.ieee]; rfl⟩

/-- An array all of whose entries pass the test has real entries. -/
theorem entries_real {s : Shape} {axes : List (Fin s.rank)} (A : FVec Ideal s .f32) (hb : S_.BroadcastsInDim s (![] : Fin 0 → Fin s.rank))
    (hr : s.ReducesTo axes S_) (j : S_.Idx)
    (e : Host.reduce IntOp.andi (cmpf .olt (Host.absf A) (broadcastInDim s ![] hb (constant (F := Ideal) S_ .f32 0x7F800000#32)))
      (constantI S_ 1 1#1) hr h_S_ j = 1#1) (i : s.Idx) : ∃ r : ℝ, (A i : EReal) = r :=
  haveI : Subsingleton S_.Idx := ⟨fun a b => funext fun k => nomatch k⟩
  real_of_lt (A i) (Host.reduce_andi_all _ _ hr h_S_ j e i)

/-- The precondition: the entries of the four arrays that enter a product are real numbers. -/
theorem real_of_finite (A0 A1 : FVec Ideal S32x65536 .f32) (A2 : FVec Ideal S1024x1024 .f32) (A3 : FVec Ideal S384x64 .f32) (A4 : FVec Ideal S64 .f32)
    (h : fn (F := Ideal) A0 A1 A2 A3 A4 = fun _ => 1#1) :
    (∀ i, ∃ r : ℝ, (A0 i : EReal) = r) ∧ (∀ i, ∃ r : ℝ, (A1 i : EReal) = r) ∧ (∀ i, ∃ r : ℝ, (A2 i : EReal) = r) ∧
      ∀ i, ∃ r : ℝ, (A3 i : EReal) = r := by
  let j : S_.Idx := fun k => nomatch k
  obtain ⟨h, h3⟩ := IntOp.andi_eq_one.1 (congrFun h j)
  obtain ⟨h, h2⟩ := IntOp.andi_eq_one.1 h
  obtain ⟨h0, h1⟩ := IntOp.andi_eq_one.1 h
  exact ⟨entries_real A0 _ _ j h0, entries_real A1 _ _ j h1, entries_real A2 _ _ j h2, entries_real A3 _ _ j h3⟩

end Cert.Pre_finite.Value

end

end
-- ==== Proof.Agree.lean ====
/- The two programs' values agree under the precondition. -/
module

public import proofs.«01_k».proof.Proof.Kernel
public import proofs.«01_k».proof.Proof.Reference
public import proofs.«01_k».proof.Proof.Equation
public import proofs.«01_k».proof.Proof.Finite

@[expose] public section

set_option maxRecDepth 16384

noncomputable section

open Idealize.ShloMosaic Idealize.ShloMosaic.TcCoe Idealize.SL.Sem

namespace Cert.Agree

/-- The two programs read the same weight. -/
theorem wt_eq (A3 : FVec Ideal ⟨2, ![384, 64]⟩ .f32) (f : Fin 128) (i : Fin 3) (o : Fin 64) :
    KernelIdeal.Value.wt A3 f i o = ReferenceIdeal.Value.wt A3 f i o :=
  congrArg (fun k => A3 (ix2 k o)) (Fin.ext (show i.val + 3 * f.val = f.val * 3 + i.val by ring))

/-- The packed input is real where both inputs are. -/
theorem inp_real (A0 A1 : FVec Ideal ⟨2, ![32, 65536]⟩ .f32) (h0 : ∀ i, ∃ r : ℝ, (A0 i : EReal) = r) (h1 : ∀ i, ∃ r : ℝ, (A1 i : EReal) = r)
    (b : Fin 32) (n : Fin 1024) (f : Fin 128) : ∃ r : ℝ, ReferenceIdeal.Value.inp A0 A1 b n f = r := by
  unfold ReferenceIdeal.Value.inp
  split
  · exact h0 _
  · exact h1 _

/-- The kernel's value is the reference's at every index. -/
theorem kval_eq_rval (A0 A1 : FVec Ideal ⟨2, ![32, 65536]⟩ .f32) (A2 : FVec Ideal ⟨2, ![1024, 1024]⟩ .f32) (A3 : FVec Ideal ⟨2, ![384, 64]⟩ .f32)
    (A4 : FVec Ideal ⟨1, ![64]⟩ .f32) (h : Cert.Pre_finite.fn (F := Ideal) A0 A1 A2 A3 A4 = fun _ => 1#1)
    (b : Fin 32) (n : Fin 1024) (o : Fin 64) :
    KernelIdeal.Value.kval A0 A1 A2 A3 A4 b n o = ReferenceIdeal.Value.rval A0 A1 A2 A3 A4 b n o := by
  obtain ⟨h0, h1, h2, h3⟩ := Pre_finite.Value.real_of_finite A0 A1 A2 A3 A4 h
  unfold KernelIdeal.Value.kval ReferenceIdeal.Value.rval
  simp only [wt_eq]
  exact Equation.values_eq (ReferenceIdeal.Value.inp A0 A1 b) (fun n k => A2 (ix2 n k)) (fun f => ReferenceIdeal.Value.wt A3 f 0 o)
    (fun f => ReferenceIdeal.Value.wt A3 f 1 o) (fun f => ReferenceIdeal.Value.wt A3 f 2 o) _ (A4 (ix1 o)) n
    (inp_real A0 A1 h0 h1 b) (fun n k => h2 _) (fun f => h3 _) (fun f => h3 _) (fun f => h3 _) Pre_finite.Value.two_real

/-- The reference's result at any index. -/
theorem ref_idx (A0 A1 : FVec Ideal ⟨2, ![32, 65536]⟩ .f32) (A2 : FVec Ideal ⟨2, ![1024, 1024]⟩ .f32) (A3 : FVec Ideal ⟨2, ![384, 64]⟩ .f32)
    (A4 : FVec Ideal ⟨1, ![64]⟩ .f32) (i : (⟨2, ![32, 65536]⟩ : Shape).Idx) : ReferenceIdeal.Value.ref A0 A1 A2 A3 A4 i =
      ReferenceIdeal.Value.rval A0 A1 A2 A3 A4 (i 0)
        ⟨(i 1).val / 64, by have := (i 1).isLt; change (i 1).val < 65536 at this; omega⟩ ⟨(i 1).val % 64, by omega⟩ := by
  refine Eq.trans (congrArg (ReferenceIdeal.Value.ref A0 A1 A2 A3 A4) (funext fun k => ?_)) (ReferenceIdeal.Value.ref_at A0 A1 A2 A3 A4 _ _ _)
  match k with
  | ⟨0, _⟩ => rfl
  | ⟨1, _⟩ => exact Fin.ext (by show (i 1).val = (i 1).val / 64 * 64 + (i 1).val % 64; omega)

/-- The kernel program's result is the reference's result over the kernel program's arguments. -/
theorem results_eq (m : (ℓ : Loc KernelIdeal.nD KernelIdeal.τ KernelIdeal.sig) → Buf (Elt Ideal) ℓ) (c : Dev KernelIdeal.nD)
    (h : Cert.Pre_finite.fn (F := Ideal) (m ((c : Thread KernelIdeal.nD KernelIdeal.τ).loc KernelIdeal.main_arg0))
      (m ((c : Thread KernelIdeal.nD KernelIdeal.τ).loc KernelIdeal.main_arg1)) (m ((c : Thread KernelIdeal.nD KernelIdeal.τ).loc KernelIdeal.main_arg2))
      (m ((c : Thread KernelIdeal.nD KernelIdeal.τ).loc KernelIdeal.main_arg3)) (m ((c : Thread KernelIdeal.nD KernelIdeal.τ).loc KernelIdeal.main_arg4)) =
        fun _ => 1#1) :
    ReferenceIdeal.Value.ref (m ((c : Thread KernelIdeal.nD KernelIdeal.τ).loc KernelIdeal.main_arg0))
      (m ((c : Thread KernelIdeal.nD KernelIdeal.τ).loc KernelIdeal.main_arg1)) (m ((c : Thread KernelIdeal.nD KernelIdeal.τ).loc KernelIdeal.main_arg2))
      (m ((c : Thread KernelIdeal.nD KernelIdeal.τ).loc KernelIdeal.main_arg3)) (m ((c : Thread KernelIdeal.nD KernelIdeal.τ).loc KernelIdeal.main_arg4)) =
    Pipeline.afterTail₀ KernelIdeal.cfgs (KernelIdeal.Gen.dats m) 0 (KernelIdeal.Gen.V0 m) [KernelIdeal.Gen.hostOps1] c KernelIdeal.main_v0 :=
  funext fun i => (ref_idx _ _ _ _ _ i).trans ((kval_eq_rval _ _ _ _ _ h _ _ _).symm.trans (KernelIdeal.Value.kernel_value m c i).symm)

end Cert.Agree

end

end
-- ==== Proof.lean ====
/- The claims, from the programs' frames and the two results' agreement. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs, leaves its arguments as they were and every semaphore at zero. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The five claims. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  reference_frame, fun m g _ => reference_frame m g True.intro, trivial, by
    pair_intro
    · run_from Cert.KernelIdeal.Gen.run_main m g & ((θ_run Cert.KernelIdeal.defs _ _).mono (fun _ h => h.1) (Cert.KernelIdeal.Gen.frame m g))
    · run_from Cert.ReferenceIdeal.Value.run m' g'
      show Cert.ReferenceIdeal.Value.ref _ _ _ _ _ = _
      exact Cert.Agree.results_eq m c (hpre c)⟩

end Cert.Proof

end

end
